-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 512]⟩ ⟨2, ![768, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![768, 512]⟩ ⟨2, ![768, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x512 : Shape := ⟨2, ![768, 512]⟩
abbrev S512 : Shape := ⟨1, ![512]⟩
abbrev S1x512 : Shape := ⟨2, ![1, 512]⟩
abbrev S32x6x128 : Shape := ⟨3, ![32, 6, 128]⟩
abbrev S32 : Shape := ⟨1, ![32]⟩
abbrev S_ : Shape := ⟨0, ![]⟩
abbrev S768 : Shape := ⟨1, ![768]⟩
abbrev S6x128 : Shape := ⟨2, ![6, 128]⟩
abbrev S1x6x128 : Shape := ⟨3, ![1, 6, 128]⟩
abbrev S1 : Shape := ⟨1, ![1]⟩
abbrev S1x768 : Shape := ⟨2, ![1, 768]⟩
abbrev S768x1 : Shape := ⟨2, ![768, 1]⟩

abbrev nBuf : Space → Nat
  | .hbm => 4
  | .vmem => 4
  | .smem => 0
  | _ => 0

abbrev bufTy : (tb : Table) → Fin (tcTables nBuf tb) → BufTy
  | .hbm, ⟨0, _⟩ => ⟨S768x512, .f32⟩
  | .hbm, ⟨1, _⟩ => ⟨S512, .f32⟩
  | .hbm, ⟨2, _⟩ => ⟨S1x512, .f32⟩
  | .hbm, ⟨3, _⟩ => ⟨S768x512, .f32⟩
  | .local _ .vmem, ⟨0, _⟩ => ⟨S768x512, .f32⟩
  | .local _ .vmem, ⟨1, _⟩ => ⟨S1x512, .f32⟩
  | .local _ .vmem, ⟨2, _⟩ => ⟨S768x512, .f32⟩
  | .local _ .vmem, ⟨3, _⟩ => ⟨S32x6x128, .f32⟩
  | _, _ => ⟨S768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_242 : BitVec 32 := 0#32
  let c0_i32_240 : BitVec 32 := 0#32
  let c1_i32_241 : BitVec 32 := 1#32
  let v413 : BitVec 32 := Scalar.muli c0_i32_240 c1_i32_241
  let v414 : BitVec 32 := Scalar.addi c0_i32_242 v413
  v414.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_242 : BitVec 32 := 0#32
  let c1_i32_240 : BitVec 32 := 1#32
  let c1_i32_241 : BitVec 32 := 1#32
  let v413 : BitVec 32 := Scalar.muli c1_i32_240 c1_i32_241
  let v414 : BitVec 32 := Scalar.addi c0_i32_242 v413
  v414.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_242 : BitVec 32 := 0#32
  let c2_i32_240 : BitVec 32 := 2#32
  let c1_i32_241 : BitVec 32 := 1#32
  let v413 : BitVec 32 := Scalar.muli c2_i32_240 c1_i32_241
  let v414 : BitVec 32 := Scalar.addi c0_i32_242 v413
  v414.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_242 : BitVec 32 := 0#32
  let c3_i32_240 : BitVec 32 := 3#32
  let c1_i32_241 : BitVec 32 := 1#32
  let v413 : BitVec 32 := Scalar.muli c3_i32_240 c1_i32_241
  let v414 : BitVec 32 := Scalar.addi c0_i32_242 v413
  v414.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_242 : BitVec 32 := 0#32
  let c4_i32_240 : BitVec 32 := 4#32
  let c1_i32_241 : BitVec 32 := 1#32
  let v413 : BitVec 32 := Scalar.muli c4_i32_240 c1_i32_241
  let v414 : BitVec 32 := Scalar.addi c0_i32_242 v413
  v414.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_242 : BitVec 32 := 0#32
  let c5_i32_240 : BitVec 32 := 5#32
  let c1_i32_241 : BitVec 32 := 1#32
  let v413 : BitVec 32 := Scalar.muli c5_i32_240 c1_i32_241
  let v414 : BitVec 32 := Scalar.addi c0_i32_242 v413
  v414.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_242 : BitVec 32 := 0#32
  let c6_i32_240 : BitVec 32 := 6#32
  let c1_i32_241 : BitVec 32 := 1#32
  let v413 : BitVec 32 := Scalar.muli c6_i32_240 c1_i32_241
  let v414 : BitVec 32 := Scalar.addi c0_i32_242 v413
  v414.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_242 : BitVec 32 := 0#32
  let c7_i32_240 : BitVec 32 := 7#32
  let c1_i32_241 : BitVec 32 := 1#32
  let v413 : BitVec 32 := Scalar.muli c7_i32_240 c1_i32_241
  let v414 : BitVec 32 := Scalar.addi c0_i32_242 v413
  v414.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_242 : BitVec 32 := 0#32
  let c8_i32_240 : BitVec 32 := 8#32
  let c1_i32_241 : BitVec 32 := 1#32
  let v413 : BitVec 32 := Scalar.muli c8_i32_240 c1_i32_241
  let v414 : BitVec 32 := Scalar.addi c0_i32_242 v413
  v414.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_242 : BitVec 32 := 0#32
  let c9_i32_240 : BitVec 32 := 9#32
  let c1_i32_241 : BitVec 32 := 1#32
  let v413 : BitVec 32 := Scalar.muli c9_i32_240 c1_i32_241
  let v414 : BitVec 32 := Scalar.addi c0_i32_242 v413
  v414.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_242 : BitVec 32 := 0#32
  let c10_i32_240 : BitVec 32 := 10#32
  let c1_i32_241 : BitVec 32 := 1#32
  let v413 : BitVec 32 := Scalar.muli c10_i32_240 c1_i32_241
  let v414 : BitVec 32 := Scalar.addi c0_i32_242 v413
  v414.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_242 : BitVec 32 := 0#32
  let c11_i32_240 : BitVec 32 := 11#32
  let c1_i32_241 : BitVec 32 := 1#32
  let v413 : BitVec 32 := Scalar.muli c11_i32_240 c1_i32_241
  let v414 : BitVec 32 := Scalar.addi c0_i32_242 v413
  v414.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_242 : BitVec 32 := 0#32
  let c12_i32_240 : BitVec 32 := 12#32
  let c1_i32_241 : BitVec 32 := 1#32
  let v413 : BitVec 32 := Scalar.muli c12_i32_240 c1_i32_241
  let v414 : BitVec 32 := Scalar.addi c0_i32_242 v413
  v414.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_242 : BitVec 32 := 0#32
  let c13_i32_240 : BitVec 32 := 13#32
  let c1_i32_241 : BitVec 32 := 1#32
  let v413 : BitVec 32 := Scalar.muli c13_i32_240 c1_i32_241
  let v414 : BitVec 32 := Scalar.addi c0_i32_242 v413
  v414.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_242 : BitVec 32 := 0#32
  let c14_i32_240 : BitVec 32 := 14#32
  let c1_i32_241 : BitVec 32 := 1#32
  let v413 : BitVec 32 := Scalar.muli c14_i32_240 c1_i32_241
  let v414 : BitVec 32 := Scalar.addi c0_i32_242 v413
  v414.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_242 : BitVec 32 := 0#32
  let c15_i32_240 : BitVec 32 := 15#32
  let c1_i32_241 : BitVec 32 := 1#32
  let v413 : BitVec 32 := Scalar.muli c15_i32_240 c1_i32_241
  let v414 : BitVec 32 := Scalar.addi c0_i32_242 v413
  v414.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v52 : BitVec 1 := Scalar.cmpi .ne v2 c16_i32
  let v53 : BitVec 32 := Scalar.extui v52
  let c0_i32_17 : BitVec 32 := 0#32
  let v54 : BitVec 1 := Scalar.cmpi .ne v53 c0_i32_17
  v54

def k0_dev17 : Nat :=
  let c0_i32_242 : BitVec 32 := 0#32
  let c16_i32_240 : BitVec 32 := 16#32
  let c1_i32_241 : BitVec 32 := 1#32
  let v413 : BitVec 32 := Scalar.muli c16_i32_240 c1_i32_241
  let v414 : BitVec 32 := Scalar.addi c0_i32_242 v413
  v414.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v55 : BitVec 1 := Scalar.cmpi .ne v2 c17_i32
  let v56 : BitVec 32 := Scalar.extui v55
  let c0_i32_18 : BitVec 32 := 0#32
  let v57 : BitVec 1 := Scalar.cmpi .ne v56 c0_i32_18
  v57

def k0_dev18 : Nat :=
  let c0_i32_242 : BitVec 32 := 0#32
  let c17_i32_240 : BitVec 32 := 17#32
  let c1_i32_241 : BitVec 32 := 1#32
  let v413 : BitVec 32 := Scalar.muli c17_i32_240 c1_i32_241
  let v414 : BitVec 32 := Scalar.addi c0_i32_242 v413
  v414.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v58 : BitVec 1 := Scalar.cmpi .ne v2 c18_i32
  let v59 : BitVec 32 := Scalar.extui v58
  let c0_i32_19 : BitVec 32 := 0#32
  let v60 : BitVec 1 := Scalar.cmpi .ne v59 c0_i32_19
  v60

def k0_dev19 : Nat :=
  let c0_i32_242 : BitVec 32 := 0#32
  let c18_i32_240 : BitVec 32 := 18#32
  let c1_i32_241 : BitVec 32 := 1#32
  let v413 : BitVec 32 := Scalar.muli c18_i32_240 c1_i32_241
  let v414 : BitVec 32 := Scalar.addi c0_i32_242 v413
  v414.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v61 : BitVec 1 := Scalar.cmpi .ne v2 c19_i32
  let v62 : BitVec 32 := Scalar.extui v61
  let c0_i32_20 : BitVec 32 := 0#32
  let v63 : BitVec 1 := Scalar.cmpi .ne v62 c0_i32_20
  v63

def k0_dev20 : Nat :=
  let c0_i32_242 : BitVec 32 := 0#32
  let c19_i32_240 : BitVec 32 := 19#32
  let c1_i32_241 : BitVec 32 := 1#32
  let v413 : BitVec 32 := Scalar.muli c19_i32_240 c1_i32_241
  let v414 : BitVec 32 := Scalar.addi c0_i32_242 v413
  v414.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v64 : BitVec 1 := Scalar.cmpi .ne v2 c20_i32
  let v65 : BitVec 32 := Scalar.extui v64
  let c0_i32_21 : BitVec 32 := 0#32
  let v66 : BitVec 1 := Scalar.cmpi .ne v65 c0_i32_21
  v66

def k0_dev21 : Nat :=
  let c0_i32_242 : BitVec 32 := 0#32
  let c20_i32_240 : BitVec 32 := 20#32
  let c1_i32_241 : BitVec 32 := 1#32
  let v413 : BitVec 32 := Scalar.muli c20_i32_240 c1_i32_241
  let v414 : BitVec 32 := Scalar.addi c0_i32_242 v413
  v414.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v67 : BitVec 1 := Scalar.cmpi .ne v2 c21_i32
  let v68 : BitVec 32 := Scalar.extui v67
  let c0_i32_22 : BitVec 32 := 0#32
  let v69 : BitVec 1 := Scalar.cmpi .ne v68 c0_i32_22
  v69

def k0_dev22 : Nat :=
  let c0_i32_242 : BitVec 32 := 0#32
  let c21_i32_240 : BitVec 32 := 21#32
  let c1_i32_241 : BitVec 32 := 1#32
  let v413 : BitVec 32 := Scalar.muli c21_i32_240 c1_i32_241
  let v414 : BitVec 32 := Scalar.addi c0_i32_242 v413
  v414.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v70 : BitVec 1 := Scalar.cmpi .ne v2 c22_i32
  let v71 : BitVec 32 := Scalar.extui v70
  let c0_i32_23 : BitVec 32 := 0#32
  let v72 : BitVec 1 := Scalar.cmpi .ne v71 c0_i32_23
  v72

def k0_dev23 : Nat :=
  let c0_i32_242 : BitVec 32 := 0#32
  let c22_i32_240 : BitVec 32 := 22#32
  let c1_i32_241 : BitVec 32 := 1#32
  let v413 : BitVec 32 := Scalar.muli c22_i32_240 c1_i32_241
  let v414 : BitVec 32 := Scalar.addi c0_i32_242 v413
  v414.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v73 : BitVec 1 := Scalar.cmpi .ne v2 c23_i32
  let v74 : BitVec 32 := Scalar.extui v73
  let c0_i32_24 : BitVec 32 := 0#32
  let v75 : BitVec 1 := Scalar.cmpi .ne v74 c0_i32_24
  v75

def k0_dev24 : Nat :=
  let c0_i32_242 : BitVec 32 := 0#32
  let c23_i32_240 : BitVec 32 := 23#32
  let c1_i32_241 : BitVec 32 := 1#32
  let v413 : BitVec 32 := Scalar.muli c23_i32_240 c1_i32_241
  let v414 : BitVec 32 := Scalar.addi c0_i32_242 v413
  v414.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v76 : BitVec 1 := Scalar.cmpi .ne v2 c24_i32
  let v77 : BitVec 32 := Scalar.extui v76
  let c0_i32_25 : BitVec 32 := 0#32
  let v78 : BitVec 1 := Scalar.cmpi .ne v77 c0_i32_25
  v78

def k0_dev25 : Nat :=
  let c0_i32_242 : BitVec 32 := 0#32
  let c24_i32_240 : BitVec 32 := 24#32
  let c1_i32_241 : BitVec 32 := 1#32
  let v413 : BitVec 32 := Scalar.muli c24_i32_240 c1_i32_241
  let v414 : BitVec 32 := Scalar.addi c0_i32_242 v413
  v414.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v79 : BitVec 1 := Scalar.cmpi .ne v2 c25_i32
  let v80 : BitVec 32 := Scalar.extui v79
  let c0_i32_26 : BitVec 32 := 0#32
  let v81 : BitVec 1 := Scalar.cmpi .ne v80 c0_i32_26
  v81

def k0_dev26 : Nat :=
  let c0_i32_242 : BitVec 32 := 0#32
  let c25_i32_240 : BitVec 32 := 25#32
  let c1_i32_241 : BitVec 32 := 1#32
  let v413 : BitVec 32 := Scalar.muli c25_i32_240 c1_i32_241
  let v414 : BitVec 32 := Scalar.addi c0_i32_242 v413
  v414.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v82 : BitVec 1 := Scalar.cmpi .ne v2 c26_i32
  let v83 : BitVec 32 := Scalar.extui v82
  let c0_i32_27 : BitVec 32 := 0#32
  let v84 : BitVec 1 := Scalar.cmpi .ne v83 c0_i32_27
  v84

def k0_dev27 : Nat :=
  let c0_i32_242 : BitVec 32 := 0#32
  let c26_i32_240 : BitVec 32 := 26#32
  let c1_i32_241 : BitVec 32 := 1#32
  let v413 : BitVec 32 := Scalar.muli c26_i32_240 c1_i32_241
  let v414 : BitVec 32 := Scalar.addi c0_i32_242 v413
  v414.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v85 : BitVec 1 := Scalar.cmpi .ne v2 c27_i32
  let v86 : BitVec 32 := Scalar.extui v85
  let c0_i32_28 : BitVec 32 := 0#32
  let v87 : BitVec 1 := Scalar.cmpi .ne v86 c0_i32_28
  v87

def k0_dev28 : Nat :=
  let c0_i32_242 : BitVec 32 := 0#32
  let c27_i32_240 : BitVec 32 := 27#32
  let c1_i32_241 : BitVec 32 := 1#32
  let v413 : BitVec 32 := Scalar.muli c27_i32_240 c1_i32_241
  let v414 : BitVec 32 := Scalar.addi c0_i32_242 v413
  v414.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v88 : BitVec 1 := Scalar.cmpi .ne v2 c28_i32
  let v89 : BitVec 32 := Scalar.extui v88
  let c0_i32_29 : BitVec 32 := 0#32
  let v90 : BitVec 1 := Scalar.cmpi .ne v89 c0_i32_29
  v90

def k0_dev29 : Nat :=
  let c0_i32_242 : BitVec 32 := 0#32
  let c28_i32_240 : BitVec 32 := 28#32
  let c1_i32_241 : BitVec 32 := 1#32
  let v413 : BitVec 32 := Scalar.muli c28_i32_240 c1_i32_241
  let v414 : BitVec 32 := Scalar.addi c0_i32_242 v413
  v414.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v91 : BitVec 1 := Scalar.cmpi .ne v2 c29_i32
  let v92 : BitVec 32 := Scalar.extui v91
  let c0_i32_30 : BitVec 32 := 0#32
  let v93 : BitVec 1 := Scalar.cmpi .ne v92 c0_i32_30
  v93

def k0_dev30 : Nat :=
  let c0_i32_242 : BitVec 32 := 0#32
  let c29_i32_240 : BitVec 32 := 29#32
  let c1_i32_241 : BitVec 32 := 1#32
  let v413 : BitVec 32 := Scalar.muli c29_i32_240 c1_i32_241
  let v414 : BitVec 32 := Scalar.addi c0_i32_242 v413
  v414.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v94 : BitVec 1 := Scalar.cmpi .ne v2 c30_i32
  let v95 : BitVec 32 := Scalar.extui v94
  let c0_i32_31 : BitVec 32 := 0#32
  let v96 : BitVec 1 := Scalar.cmpi .ne v95 c0_i32_31
  v96

def k0_dev31 : Nat :=
  let c0_i32_242 : BitVec 32 := 0#32
  let c30_i32_240 : BitVec 32 := 30#32
  let c1_i32_241 : BitVec 32 := 1#32
  let v413 : BitVec 32 := Scalar.muli c30_i32_240 c1_i32_241
  let v414 : BitVec 32 := Scalar.addi c0_i32_242 v413
  v414.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v97 : BitVec 1 := Scalar.cmpi .ne v2 c31_i32
  let v98 : BitVec 32 := Scalar.extui v97
  let c0_i32_32 : BitVec 32 := 0#32
  let v99 : BitVec 1 := Scalar.cmpi .ne v98 c0_i32_32
  v99

def k0_dev32 : Nat :=
  let c0_i32_242 : BitVec 32 := 0#32
  let c31_i32_240 : BitVec 32 := 31#32
  let c1_i32_241 : BitVec 32 := 1#32
  let v413 : BitVec 32 := Scalar.muli c31_i32_240 c1_i32_241
  let v414 : BitVec 32 := Scalar.addi c0_i32_242 v413
  v414.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v105 : Index := Scalar.indexCast v2
  let c0_34 : Index := 0#32
  let c0_35 : Index := 0#32
  ![v105.toNat, 0, 0]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_37 : BitVec 32 := 0#32
  let v109 : BitVec 1 := Scalar.cmpi .ne v2 c0_i32_37
  let v110 : BitVec 32 := Scalar.extui v109
  let c0_i32_38 : BitVec 32 := 0#32
  let v111 : BitVec 1 := Scalar.cmpi .ne v110 c0_i32_38
  v111

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev33 : Nat :=
  let c0_i32_242 : BitVec 32 := 0#32
  let c0_i32_240 : BitVec 32 := 0#32
  let c1_i32_241 : BitVec 32 := 1#32
  let v413 : BitVec 32 := Scalar.muli c0_i32_240 c1_i32_241
  let v414 : BitVec 32 := Scalar.addi c0_i32_242 v413
  v414.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_39 : BitVec 32 := 1#32
  let v112 : BitVec 1 := Scalar.cmpi .ne v2 c1_i32_39
  let v113 : BitVec 32 := Scalar.extui v112
  let c0_i32_40 : BitVec 32 := 0#32
  let v114 : BitVec 1 := Scalar.cmpi .ne v113 c0_i32_40
  v114

def k0_off4 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev34 : Nat :=
  let c0_i32_242 : BitVec 32 := 0#32
  let c1_i32_240 : BitVec 32 := 1#32
  let c1_i32_241 : BitVec 32 := 1#32
  let v413 : BitVec 32 := Scalar.muli c1_i32_240 c1_i32_241
  let v414 : BitVec 32 := Scalar.addi c0_i32_242 v413
  v414.toNat
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_41 : BitVec 32 := 2#32
  let v115 : BitVec 1 := Scalar.cmpi .ne v2 c2_i32_41
  let v116 : BitVec 32 := Scalar.extui v115
  let c0_i32_42 : BitVec 32 := 0#32
  let v117 : BitVec 1 := Scalar.cmpi .ne v116 c0_i32_42
  v117

def k0_off6 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev35 : Nat :=
  let c0_i32_242 : BitVec 32 := 0#32
  let c2_i32_240 : BitVec 32 := 2#32
  let c1_i32_241 : BitVec 32 := 1#32
  let v413 : BitVec 32 := Scalar.muli c2_i32_240 c1_i32_241
  let v414 : BitVec 32 := Scalar.addi c0_i32_242 v413
  v414.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_43 : BitVec 32 := 3#32
  let v118 : BitVec 1 := Scalar.cmpi .ne v2 c3_i32_43
  let v119 : BitVec 32 := Scalar.extui v118
  let c0_i32_44 : BitVec 32 := 0#32
  let v120 : BitVec 1 := Scalar.cmpi .ne v119 c0_i32_44
  v120

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev36 : Nat :=
  let c0_i32_242 : BitVec 32 := 0#32
  let c3_i32_240 : BitVec 32 := 3#32
  let c1_i32_241 : BitVec 32 := 1#32
  let v413 : BitVec 32 := Scalar.muli c3_i32_240 c1_i32_241
  let v414 : BitVec 32 := Scalar.addi c0_i32_242 v413
  v414.toNat
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_45 : BitVec 32 := 4#32
  let v121 : BitVec 1 := Scalar.cmpi .ne v2 c4_i32_45
  let v122 : BitVec 32 := Scalar.extui v121
  let c0_i32_46 : BitVec 32 := 0#32
  let v123 : BitVec 1 := Scalar.cmpi .ne v122 c0_i32_46
  v123

def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev37 : Nat :=
  let c0_i32_242 : BitVec 32 := 0#32
  let c4_i32_240 : BitVec 32 := 4#32
  let c1_i32_241 : BitVec 32 := 1#32
  let v413 : BitVec 32 := Scalar.muli c4_i32_240 c1_i32_241
  let v414 : BitVec 32 := Scalar.addi c0_i32_242 v413
  v414.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_47 : BitVec 32 := 5#32
  let v124 : BitVec 1 := Scalar.cmpi .ne v2 c5_i32_47
  let v125 : BitVec 32 := Scalar.extui v124
  let c0_i32_48 : BitVec 32 := 0#32
  let v126 : BitVec 1 := Scalar.cmpi .ne v125 c0_i32_48
  v126

def k0_off12 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev38 : Nat :=
  let c0_i32_242 : BitVec 32 := 0#32
  let c5_i32_240 : BitVec 32 := 5#32
  let c1_i32_241 : BitVec 32 := 1#32
  let v413 : BitVec 32 := Scalar.muli c5_i32_240 c1_i32_241
  let v414 : BitVec 32 := Scalar.addi c0_i32_242 v413
  v414.toNat
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_49 : BitVec 32 := 6#32
  let v127 : BitVec 1 := Scalar.cmpi .ne v2 c6_i32_49
  let v128 : BitVec 32 := Scalar.extui v127
  let c0_i32_50 : BitVec 32 := 0#32
  let v129 : BitVec 1 := Scalar.cmpi .ne v128 c0_i32_50
  v129

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev39 : Nat :=
  let c0_i32_242 : BitVec 32 := 0#32
  let c6_i32_240 : BitVec 32 := 6#32
  let c1_i32_241 : BitVec 32 := 1#32
  let v413 : BitVec 32 := Scalar.muli c6_i32_240 c1_i32_241
  let v414 : BitVec 32 := Scalar.addi c0_i32_242 v413
  v414.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_51 : BitVec 32 := 7#32
  let v130 : BitVec 1 := Scalar.cmpi .ne v2 c7_i32_51
  let v131 : BitVec 32 := Scalar.extui v130
  let c0_i32_52 : BitVec 32 := 0#32
  let v132 : BitVec 1 := Scalar.cmpi .ne v131 c0_i32_52
  v132

def k0_off16 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev40 : Nat :=
  let c0_i32_242 : BitVec 32 := 0#32
  let c7_i32_240 : BitVec 32 := 7#32
  let c1_i32_241 : BitVec 32 := 1#32
  let v413 : BitVec 32 := Scalar.muli c7_i32_240 c1_i32_241
  let v414 : BitVec 32 := Scalar.addi c0_i32_242 v413
  v414.toNat
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_53 : BitVec 32 := 8#32
  let v133 : BitVec 1 := Scalar.cmpi .ne v2 c8_i32_53
  let v134 : BitVec 32 := Scalar.extui v133
  let c0_i32_54 : BitVec 32 := 0#32
  let v135 : BitVec 1 := Scalar.cmpi .ne v134 c0_i32_54
  v135

def k0_off18 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev41 : Nat :=
  let c0_i32_242 : BitVec 32 := 0#32
  let c8_i32_240 : BitVec 32 := 8#32
  let c1_i32_241 : BitVec 32 := 1#32
  let v413 : BitVec 32 := Scalar.muli c8_i32_240 c1_i32_241
  let v414 : BitVec 32 := Scalar.addi c0_i32_242 v413
  v414.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_55 : BitVec 32 := 9#32
  let v136 : BitVec 1 := Scalar.cmpi .ne v2 c9_i32_55
  let v137 : BitVec 32 := Scalar.extui v136
  let c0_i32_56 : BitVec 32 := 0#32
  let v138 : BitVec 1 := Scalar.cmpi .ne v137 c0_i32_56
  v138

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev42 : Nat :=
  let c0_i32_242 : BitVec 32 := 0#32
  let c9_i32_240 : BitVec 32 := 9#32
  let c1_i32_241 : BitVec 32 := 1#32
  let v413 : BitVec 32 := Scalar.muli c9_i32_240 c1_i32_241
  let v414 : BitVec 32 := Scalar.addi c0_i32_242 v413
  v414.toNat
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_57 : BitVec 32 := 10#32
  let v139 : BitVec 1 := Scalar.cmpi .ne v2 c10_i32_57
  let v140 : BitVec 32 := Scalar.extui v139
  let c0_i32_58 : BitVec 32 := 0#32
  let v141 : BitVec 1 := Scalar.cmpi .ne v140 c0_i32_58
  v141

def k0_off22 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev43 : Nat :=
  let c0_i32_242 : BitVec 32 := 0#32
  let c10_i32_240 : BitVec 32 := 10#32
  let c1_i32_241 : BitVec 32 := 1#32
  let v413 : BitVec 32 := Scalar.muli c10_i32_240 c1_i32_241
  let v414 : BitVec 32 := Scalar.addi c0_i32_242 v413
  v414.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_59 : BitVec 32 := 11#32
  let v142 : BitVec 1 := Scalar.cmpi .ne v2 c11_i32_59
  let v143 : BitVec 32 := Scalar.extui v142
  let c0_i32_60 : BitVec 32 := 0#32
  let v144 : BitVec 1 := Scalar.cmpi .ne v143 c0_i32_60
  v144

def k0_off24 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev44 : Nat :=
  let c0_i32_242 : BitVec 32 := 0#32
  let c11_i32_240 : BitVec 32 := 11#32
  let c1_i32_241 : BitVec 32 := 1#32
  let v413 : BitVec 32 := Scalar.muli c11_i32_240 c1_i32_241
  let v414 : BitVec 32 := Scalar.addi c0_i32_242 v413
  v414.toNat
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_61 : BitVec 32 := 12#32
  let v145 : BitVec 1 := Scalar.cmpi .ne v2 c12_i32_61
  let v146 : BitVec 32 := Scalar.extui v145
  let c0_i32_62 : BitVec 32 := 0#32
  let v147 : BitVec 1 := Scalar.cmpi .ne v146 c0_i32_62
  v147

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev45 : Nat :=
  let c0_i32_242 : BitVec 32 := 0#32
  let c12_i32_240 : BitVec 32 := 12#32
  let c1_i32_241 : BitVec 32 := 1#32
  let v413 : BitVec 32 := Scalar.muli c12_i32_240 c1_i32_241
  let v414 : BitVec 32 := Scalar.addi c0_i32_242 v413
  v414.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_63 : BitVec 32 := 13#32
  let v148 : BitVec 1 := Scalar.cmpi .ne v2 c13_i32_63
  let v149 : BitVec 32 := Scalar.extui v148
  let c0_i32_64 : BitVec 32 := 0#32
  let v150 : BitVec 1 := Scalar.cmpi .ne v149 c0_i32_64
  v150

def k0_off28 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev46 : Nat :=
  let c0_i32_242 : BitVec 32 := 0#32
  let c13_i32_240 : BitVec 32 := 13#32
  let c1_i32_241 : BitVec 32 := 1#32
  let v413 : BitVec 32 := Scalar.muli c13_i32_240 c1_i32_241
  let v414 : BitVec 32 := Scalar.addi c0_i32_242 v413
  v414.toNat
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_65 : BitVec 32 := 14#32
  let v151 : BitVec 1 := Scalar.cmpi .ne v2 c14_i32_65
  let v152 : BitVec 32 := Scalar.extui v151
  let c0_i32_66 : BitVec 32 := 0#32
  let v153 : BitVec 1 := Scalar.cmpi .ne v152 c0_i32_66
  v153

def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev47 : Nat :=
  let c0_i32_242 : BitVec 32 := 0#32
  let c14_i32_240 : BitVec 32 := 14#32
  let c1_i32_241 : BitVec 32 := 1#32
  let v413 : BitVec 32 := Scalar.muli c14_i32_240 c1_i32_241
  let v414 : BitVec 32 := Scalar.addi c0_i32_242 v413
  v414.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_67 : BitVec 32 := 15#32
  let v154 : BitVec 1 := Scalar.cmpi .ne v2 c15_i32_67
  let v155 : BitVec 32 := Scalar.extui v154
  let c0_i32_68 : BitVec 32 := 0#32
  let v156 : BitVec 1 := Scalar.cmpi .ne v155 c0_i32_68
  v156

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev48 : Nat :=
  let c0_i32_242 : BitVec 32 := 0#32
  let c15_i32_240 : BitVec 32 := 15#32
  let c1_i32_241 : BitVec 32 := 1#32
  let v413 : BitVec 32 := Scalar.muli c15_i32_240 c1_i32_241
  let v414 : BitVec 32 := Scalar.addi c0_i32_242 v413
  v414.toNat
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_69 : BitVec 32 := 16#32
  let v157 : BitVec 1 := Scalar.cmpi .ne v2 c16_i32_69
  let v158 : BitVec 32 := Scalar.extui v157
  let c0_i32_70 : BitVec 32 := 0#32
  let v159 : BitVec 1 := Scalar.cmpi .ne v158 c0_i32_70
  v159

def k0_off34 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev49 : Nat :=
  let c0_i32_242 : BitVec 32 := 0#32
  let c16_i32_240 : BitVec 32 := 16#32
  let c1_i32_241 : BitVec 32 := 1#32
  let v413 : BitVec 32 := Scalar.muli c16_i32_240 c1_i32_241
  let v414 : BitVec 32 := Scalar.addi c0_i32_242 v413
  v414.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_71 : BitVec 32 := 17#32
  let v160 : BitVec 1 := Scalar.cmpi .ne v2 c17_i32_71
  let v161 : BitVec 32 := Scalar.extui v160
  let c0_i32_72 : BitVec 32 := 0#32
  let v162 : BitVec 1 := Scalar.cmpi .ne v161 c0_i32_72
  v162

def k0_off36 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev50 : Nat :=
  let c0_i32_242 : BitVec 32 := 0#32
  let c17_i32_240 : BitVec 32 := 17#32
  let c1_i32_241 : BitVec 32 := 1#32
  let v413 : BitVec 32 := Scalar.muli c17_i32_240 c1_i32_241
  let v414 : BitVec 32 := Scalar.addi c0_i32_242 v413
  v414.toNat
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_73 : BitVec 32 := 18#32
  let v163 : BitVec 1 := Scalar.cmpi .ne v2 c18_i32_73
  let v164 : BitVec 32 := Scalar.extui v163
  let c0_i32_74 : BitVec 32 := 0#32
  let v165 : BitVec 1 := Scalar.cmpi .ne v164 c0_i32_74
  v165

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev51 : Nat :=
  let c0_i32_242 : BitVec 32 := 0#32
  let c18_i32_240 : BitVec 32 := 18#32
  let c1_i32_241 : BitVec 32 := 1#32
  let v413 : BitVec 32 := Scalar.muli c18_i32_240 c1_i32_241
  let v414 : BitVec 32 := Scalar.addi c0_i32_242 v413
  v414.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_75 : BitVec 32 := 19#32
  let v166 : BitVec 1 := Scalar.cmpi .ne v2 c19_i32_75
  let v167 : BitVec 32 := Scalar.extui v166
  let c0_i32_76 : BitVec 32 := 0#32
  let v168 : BitVec 1 := Scalar.cmpi .ne v167 c0_i32_76
  v168

def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev52 : Nat :=
  let c0_i32_242 : BitVec 32 := 0#32
  let c19_i32_240 : BitVec 32 := 19#32
  let c1_i32_241 : BitVec 32 := 1#32
  let v413 : BitVec 32 := Scalar.muli c19_i32_240 c1_i32_241
  let v414 : BitVec 32 := Scalar.addi c0_i32_242 v413
  v414.toNat
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_77 : BitVec 32 := 20#32
  let v169 : BitVec 1 := Scalar.cmpi .ne v2 c20_i32_77
  let v170 : BitVec 32 := Scalar.extui v169
  let c0_i32_78 : BitVec 32 := 0#32
  let v171 : BitVec 1 := Scalar.cmpi .ne v170 c0_i32_78
  v171

def k0_off42 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev53 : Nat :=
  let c0_i32_242 : BitVec 32 := 0#32
  let c20_i32_240 : BitVec 32 := 20#32
  let c1_i32_241 : BitVec 32 := 1#32
  let v413 : BitVec 32 := Scalar.muli c20_i32_240 c1_i32_241
  let v414 : BitVec 32 := Scalar.addi c0_i32_242 v413
  v414.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_79 : BitVec 32 := 21#32
  let v172 : BitVec 1 := Scalar.cmpi .ne v2 c21_i32_79
  let v173 : BitVec 32 := Scalar.extui v172
  let c0_i32_80 : BitVec 32 := 0#32
  let v174 : BitVec 1 := Scalar.cmpi .ne v173 c0_i32_80
  v174

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev54 : Nat :=
  let c0_i32_242 : BitVec 32 := 0#32
  let c21_i32_240 : BitVec 32 := 21#32
  let c1_i32_241 : BitVec 32 := 1#32
  let v413 : BitVec 32 := Scalar.muli c21_i32_240 c1_i32_241
  let v414 : BitVec 32 := Scalar.addi c0_i32_242 v413
  v414.toNat
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_81 : BitVec 32 := 22#32
  let v175 : BitVec 1 := Scalar.cmpi .ne v2 c22_i32_81
  let v176 : BitVec 32 := Scalar.extui v175
  let c0_i32_82 : BitVec 32 := 0#32
  let v177 : BitVec 1 := Scalar.cmpi .ne v176 c0_i32_82
  v177

def k0_off46 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off47 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev55 : Nat :=
  let c0_i32_242 : BitVec 32 := 0#32
  let c22_i32_240 : BitVec 32 := 22#32
  let c1_i32_241 : BitVec 32 := 1#32
  let v413 : BitVec 32 := Scalar.muli c22_i32_240 c1_i32_241
  let v414 : BitVec 32 := Scalar.addi c0_i32_242 v413
  v414.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_83 : BitVec 32 := 23#32
  let v178 : BitVec 1 := Scalar.cmpi .ne v2 c23_i32_83
  let v179 : BitVec 32 := Scalar.extui v178
  let c0_i32_84 : BitVec 32 := 0#32
  let v180 : BitVec 1 := Scalar.cmpi .ne v179 c0_i32_84
  v180

def k0_off48 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev56 : Nat :=
  let c0_i32_242 : BitVec 32 := 0#32
  let c23_i32_240 : BitVec 32 := 23#32
  let c1_i32_241 : BitVec 32 := 1#32
  let v413 : BitVec 32 := Scalar.muli c23_i32_240 c1_i32_241
  let v414 : BitVec 32 := Scalar.addi c0_i32_242 v413
  v414.toNat
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_85 : BitVec 32 := 24#32
  let v181 : BitVec 1 := Scalar.cmpi .ne v2 c24_i32_85
  let v182 : BitVec 32 := Scalar.extui v181
  let c0_i32_86 : BitVec 32 := 0#32
  let v183 : BitVec 1 := Scalar.cmpi .ne v182 c0_i32_86
  v183

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev57 : Nat :=
  let c0_i32_242 : BitVec 32 := 0#32
  let c24_i32_240 : BitVec 32 := 24#32
  let c1_i32_241 : BitVec 32 := 1#32
  let v413 : BitVec 32 := Scalar.muli c24_i32_240 c1_i32_241
  let v414 : BitVec 32 := Scalar.addi c0_i32_242 v413
  v414.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_87 : BitVec 32 := 25#32
  let v184 : BitVec 1 := Scalar.cmpi .ne v2 c25_i32_87
  let v185 : BitVec 32 := Scalar.extui v184
  let c0_i32_88 : BitVec 32 := 0#32
  let v186 : BitVec 1 := Scalar.cmpi .ne v185 c0_i32_88
  v186

def k0_off52 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off53 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev58 : Nat :=
  let c0_i32_242 : BitVec 32 := 0#32
  let c25_i32_240 : BitVec 32 := 25#32
  let c1_i32_241 : BitVec 32 := 1#32
  let v413 : BitVec 32 := Scalar.muli c25_i32_240 c1_i32_241
  let v414 : BitVec 32 := Scalar.addi c0_i32_242 v413
  v414.toNat
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_89 : BitVec 32 := 26#32
  let v187 : BitVec 1 := Scalar.cmpi .ne v2 c26_i32_89
  let v188 : BitVec 32 := Scalar.extui v187
  let c0_i32_90 : BitVec 32 := 0#32
  let v189 : BitVec 1 := Scalar.cmpi .ne v188 c0_i32_90
  v189

def k0_off54 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev59 : Nat :=
  let c0_i32_242 : BitVec 32 := 0#32
  let c26_i32_240 : BitVec 32 := 26#32
  let c1_i32_241 : BitVec 32 := 1#32
  let v413 : BitVec 32 := Scalar.muli c26_i32_240 c1_i32_241
  let v414 : BitVec 32 := Scalar.addi c0_i32_242 v413
  v414.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_91 : BitVec 32 := 27#32
  let v190 : BitVec 1 := Scalar.cmpi .ne v2 c27_i32_91
  let v191 : BitVec 32 := Scalar.extui v190
  let c0_i32_92 : BitVec 32 := 0#32
  let v192 : BitVec 1 := Scalar.cmpi .ne v191 c0_i32_92
  v192

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev60 : Nat :=
  let c0_i32_242 : BitVec 32 := 0#32
  let c27_i32_240 : BitVec 32 := 27#32
  let c1_i32_241 : BitVec 32 := 1#32
  let v413 : BitVec 32 := Scalar.muli c27_i32_240 c1_i32_241
  let v414 : BitVec 32 := Scalar.addi c0_i32_242 v413
  v414.toNat
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_93 : BitVec 32 := 28#32
  let v193 : BitVec 1 := Scalar.cmpi .ne v2 c28_i32_93
  let v194 : BitVec 32 := Scalar.extui v193
  let c0_i32_94 : BitVec 32 := 0#32
  let v195 : BitVec 1 := Scalar.cmpi .ne v194 c0_i32_94
  v195

def k0_off58 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off59 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev61 : Nat :=
  let c0_i32_242 : BitVec 32 := 0#32
  let c28_i32_240 : BitVec 32 := 28#32
  let c1_i32_241 : BitVec 32 := 1#32
  let v413 : BitVec 32 := Scalar.muli c28_i32_240 c1_i32_241
  let v414 : BitVec 32 := Scalar.addi c0_i32_242 v413
  v414.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_95 : BitVec 32 := 29#32
  let v196 : BitVec 1 := Scalar.cmpi .ne v2 c29_i32_95
  let v197 : BitVec 32 := Scalar.extui v196
  let c0_i32_96 : BitVec 32 := 0#32
  let v198 : BitVec 1 := Scalar.cmpi .ne v197 c0_i32_96
  v198

def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev62 : Nat :=
  let c0_i32_242 : BitVec 32 := 0#32
  let c29_i32_240 : BitVec 32 := 29#32
  let c1_i32_241 : BitVec 32 := 1#32
  let v413 : BitVec 32 := Scalar.muli c29_i32_240 c1_i32_241
  let v414 : BitVec 32 := Scalar.addi c0_i32_242 v413
  v414.toNat
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_97 : BitVec 32 := 30#32
  let v199 : BitVec 1 := Scalar.cmpi .ne v2 c30_i32_97
  let v200 : BitVec 32 := Scalar.extui v199
  let c0_i32_98 : BitVec 32 := 0#32
  let v201 : BitVec 1 := Scalar.cmpi .ne v200 c0_i32_98
  v201

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev63 : Nat :=
  let c0_i32_242 : BitVec 32 := 0#32
  let c30_i32_240 : BitVec 32 := 30#32
  let c1_i32_241 : BitVec 32 := 1#32
  let v413 : BitVec 32 := Scalar.muli c30_i32_240 c1_i32_241
  let v414 : BitVec 32 := Scalar.addi c0_i32_242 v413
  v414.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_99 : BitVec 32 := 31#32
  let v202 : BitVec 1 := Scalar.cmpi .ne v2 c31_i32_99
  let v203 : BitVec 32 := Scalar.extui v202
  let c0_i32_100 : BitVec 32 := 0#32
  let v204 : BitVec 1 := Scalar.cmpi .ne v203 c0_i32_100
  v204

def k0_off64 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off65 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_243 : BitVec 32 := 0#32
  let c0_i32_244 : BitVec 32 := 0#32
  ![v2.toNat, 0, 0]
def k0_dev64 : Nat :=
  let c0_i32_242 : BitVec 32 := 0#32
  let c31_i32_240 : BitVec 32 := 31#32
  let c1_i32_241 : BitVec 32 := 1#32
  let v413 : BitVec 32 := Scalar.muli c31_i32_240 c1_i32_241
  let v414 : BitVec 32 := Scalar.addi c0_i32_242 v413
  v414.toNat
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_103 : BitVec 32 := 0#32
  let v209 : BitVec 1 := Scalar.cmpi .ne v2 c0_i32_103
  let v210 : BitVec 32 := Scalar.extui v209
  let c0_i32_104 : BitVec 32 := 0#32
  let v211 : BitVec 1 := Scalar.cmpi .ne v210 c0_i32_104
  v211

def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_105 : BitVec 32 := 1#32
  let v212 : BitVec 1 := Scalar.cmpi .ne v2 c1_i32_105
  let v213 : BitVec 32 := Scalar.extui v212
  let c0_i32_106 : BitVec 32 := 0#32
  let v214 : BitVec 1 := Scalar.cmpi .ne v213 c0_i32_106
  v214

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_107 : BitVec 32 := 2#32
  let v215 : BitVec 1 := Scalar.cmpi .ne v2 c2_i32_107
  let v216 : BitVec 32 := Scalar.extui v215
  let c0_i32_108 : BitVec 32 := 0#32
  let v217 : BitVec 1 := Scalar.cmpi .ne v216 c0_i32_108
  v217

def k0_off68 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_109 : BitVec 32 := 3#32
  let v218 : BitVec 1 := Scalar.cmpi .ne v2 c3_i32_109
  let v219 : BitVec 32 := Scalar.extui v218
  let c0_i32_110 : BitVec 32 := 0#32
  let v220 : BitVec 1 := Scalar.cmpi .ne v219 c0_i32_110
  v220

def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_111 : BitVec 32 := 4#32
  let v221 : BitVec 1 := Scalar.cmpi .ne v2 c4_i32_111
  let v222 : BitVec 32 := Scalar.extui v221
  let c0_i32_112 : BitVec 32 := 0#32
  let v223 : BitVec 1 := Scalar.cmpi .ne v222 c0_i32_112
  v223

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_113 : BitVec 32 := 5#32
  let v224 : BitVec 1 := Scalar.cmpi .ne v2 c5_i32_113
  let v225 : BitVec 32 := Scalar.extui v224
  let c0_i32_114 : BitVec 32 := 0#32
  let v226 : BitVec 1 := Scalar.cmpi .ne v225 c0_i32_114
  v226

def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_115 : BitVec 32 := 6#32
  let v227 : BitVec 1 := Scalar.cmpi .ne v2 c6_i32_115
  let v228 : BitVec 32 := Scalar.extui v227
  let c0_i32_116 : BitVec 32 := 0#32
  let v229 : BitVec 1 := Scalar.cmpi .ne v228 c0_i32_116
  v229

def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_117 : BitVec 32 := 7#32
  let v230 : BitVec 1 := Scalar.cmpi .ne v2 c7_i32_117
  let v231 : BitVec 32 := Scalar.extui v230
  let c0_i32_118 : BitVec 32 := 0#32
  let v232 : BitVec 1 := Scalar.cmpi .ne v231 c0_i32_118
  v232

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_119 : BitVec 32 := 8#32
  let v233 : BitVec 1 := Scalar.cmpi .ne v2 c8_i32_119
  let v234 : BitVec 32 := Scalar.extui v233
  let c0_i32_120 : BitVec 32 := 0#32
  let v235 : BitVec 1 := Scalar.cmpi .ne v234 c0_i32_120
  v235

def k0_off74 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_121 : BitVec 32 := 9#32
  let v236 : BitVec 1 := Scalar.cmpi .ne v2 c9_i32_121
  let v237 : BitVec 32 := Scalar.extui v236
  let c0_i32_122 : BitVec 32 := 0#32
  let v238 : BitVec 1 := Scalar.cmpi .ne v237 c0_i32_122
  v238

def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_123 : BitVec 32 := 10#32
  let v239 : BitVec 1 := Scalar.cmpi .ne v2 c10_i32_123
  let v240 : BitVec 32 := Scalar.extui v239
  let c0_i32_124 : BitVec 32 := 0#32
  let v241 : BitVec 1 := Scalar.cmpi .ne v240 c0_i32_124
  v241

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_125 : BitVec 32 := 11#32
  let v242 : BitVec 1 := Scalar.cmpi .ne v2 c11_i32_125
  let v243 : BitVec 32 := Scalar.extui v242
  let c0_i32_126 : BitVec 32 := 0#32
  let v244 : BitVec 1 := Scalar.cmpi .ne v243 c0_i32_126
  v244

def k0_off77 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_127 : BitVec 32 := 12#32
  let v245 : BitVec 1 := Scalar.cmpi .ne v2 c12_i32_127
  let v246 : BitVec 32 := Scalar.extui v245
  let c0_i32_128 : BitVec 32 := 0#32
  let v247 : BitVec 1 := Scalar.cmpi .ne v246 c0_i32_128
  v247

def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_129 : BitVec 32 := 13#32
  let v248 : BitVec 1 := Scalar.cmpi .ne v2 c13_i32_129
  let v249 : BitVec 32 := Scalar.extui v248
  let c0_i32_130 : BitVec 32 := 0#32
  let v250 : BitVec 1 := Scalar.cmpi .ne v249 c0_i32_130
  v250

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_131 : BitVec 32 := 14#32
  let v251 : BitVec 1 := Scalar.cmpi .ne v2 c14_i32_131
  let v252 : BitVec 32 := Scalar.extui v251
  let c0_i32_132 : BitVec 32 := 0#32
  let v253 : BitVec 1 := Scalar.cmpi .ne v252 c0_i32_132
  v253

def k0_off80 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_133 : BitVec 32 := 15#32
  let v254 : BitVec 1 := Scalar.cmpi .ne v2 c15_i32_133
  let v255 : BitVec 32 := Scalar.extui v254
  let c0_i32_134 : BitVec 32 := 0#32
  let v256 : BitVec 1 := Scalar.cmpi .ne v255 c0_i32_134
  v256

def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_135 : BitVec 32 := 16#32
  let v257 : BitVec 1 := Scalar.cmpi .ne v2 c16_i32_135
  let v258 : BitVec 32 := Scalar.extui v257
  let c0_i32_136 : BitVec 32 := 0#32
  let v259 : BitVec 1 := Scalar.cmpi .ne v258 c0_i32_136
  v259

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_137 : BitVec 32 := 17#32
  let v260 : BitVec 1 := Scalar.cmpi .ne v2 c17_i32_137
  let v261 : BitVec 32 := Scalar.extui v260
  let c0_i32_138 : BitVec 32 := 0#32
  let v262 : BitVec 1 := Scalar.cmpi .ne v261 c0_i32_138
  v262

def k0_off83 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_139 : BitVec 32 := 18#32
  let v263 : BitVec 1 := Scalar.cmpi .ne v2 c18_i32_139
  let v264 : BitVec 32 := Scalar.extui v263
  let c0_i32_140 : BitVec 32 := 0#32
  let v265 : BitVec 1 := Scalar.cmpi .ne v264 c0_i32_140
  v265

def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_141 : BitVec 32 := 19#32
  let v266 : BitVec 1 := Scalar.cmpi .ne v2 c19_i32_141
  let v267 : BitVec 32 := Scalar.extui v266
  let c0_i32_142 : BitVec 32 := 0#32
  let v268 : BitVec 1 := Scalar.cmpi .ne v267 c0_i32_142
  v268

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_143 : BitVec 32 := 20#32
  let v269 : BitVec 1 := Scalar.cmpi .ne v2 c20_i32_143
  let v270 : BitVec 32 := Scalar.extui v269
  let c0_i32_144 : BitVec 32 := 0#32
  let v271 : BitVec 1 := Scalar.cmpi .ne v270 c0_i32_144
  v271

def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_145 : BitVec 32 := 21#32
  let v272 : BitVec 1 := Scalar.cmpi .ne v2 c21_i32_145
  let v273 : BitVec 32 := Scalar.extui v272
  let c0_i32_146 : BitVec 32 := 0#32
  let v274 : BitVec 1 := Scalar.cmpi .ne v273 c0_i32_146
  v274

def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_147 : BitVec 32 := 22#32
  let v275 : BitVec 1 := Scalar.cmpi .ne v2 c22_i32_147
  let v276 : BitVec 32 := Scalar.extui v275
  let c0_i32_148 : BitVec 32 := 0#32
  let v277 : BitVec 1 := Scalar.cmpi .ne v276 c0_i32_148
  v277

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_149 : BitVec 32 := 23#32
  let v278 : BitVec 1 := Scalar.cmpi .ne v2 c23_i32_149
  let v279 : BitVec 32 := Scalar.extui v278
  let c0_i32_150 : BitVec 32 := 0#32
  let v280 : BitVec 1 := Scalar.cmpi .ne v279 c0_i32_150
  v280

def k0_off89 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_151 : BitVec 32 := 24#32
  let v281 : BitVec 1 := Scalar.cmpi .ne v2 c24_i32_151
  let v282 : BitVec 32 := Scalar.extui v281
  let c0_i32_152 : BitVec 32 := 0#32
  let v283 : BitVec 1 := Scalar.cmpi .ne v282 c0_i32_152
  v283

def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_153 : BitVec 32 := 25#32
  let v284 : BitVec 1 := Scalar.cmpi .ne v2 c25_i32_153
  let v285 : BitVec 32 := Scalar.extui v284
  let c0_i32_154 : BitVec 32 := 0#32
  let v286 : BitVec 1 := Scalar.cmpi .ne v285 c0_i32_154
  v286

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_155 : BitVec 32 := 26#32
  let v287 : BitVec 1 := Scalar.cmpi .ne v2 c26_i32_155
  let v288 : BitVec 32 := Scalar.extui v287
  let c0_i32_156 : BitVec 32 := 0#32
  let v289 : BitVec 1 := Scalar.cmpi .ne v288 c0_i32_156
  v289

def k0_off92 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_157 : BitVec 32 := 27#32
  let v290 : BitVec 1 := Scalar.cmpi .ne v2 c27_i32_157
  let v291 : BitVec 32 := Scalar.extui v290
  let c0_i32_158 : BitVec 32 := 0#32
  let v292 : BitVec 1 := Scalar.cmpi .ne v291 c0_i32_158
  v292

def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_159 : BitVec 32 := 28#32
  let v293 : BitVec 1 := Scalar.cmpi .ne v2 c28_i32_159
  let v294 : BitVec 32 := Scalar.extui v293
  let c0_i32_160 : BitVec 32 := 0#32
  let v295 : BitVec 1 := Scalar.cmpi .ne v294 c0_i32_160
  v295

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_161 : BitVec 32 := 29#32
  let v296 : BitVec 1 := Scalar.cmpi .ne v2 c29_i32_161
  let v297 : BitVec 32 := Scalar.extui v296
  let c0_i32_162 : BitVec 32 := 0#32
  let v298 : BitVec 1 := Scalar.cmpi .ne v297 c0_i32_162
  v298

def k0_off95 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_163 : BitVec 32 := 30#32
  let v299 : BitVec 1 := Scalar.cmpi .ne v2 c30_i32_163
  let v300 : BitVec 32 := Scalar.extui v299
  let c0_i32_164 : BitVec 32 := 0#32
  let v301 : BitVec 1 := Scalar.cmpi .ne v300 c0_i32_164
  v301

def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_165 : BitVec 32 := 31#32
  let v302 : BitVec 1 := Scalar.cmpi .ne v2 c31_i32_165
  let v303 : BitVec 32 := Scalar.extui v302
  let c0_i32_166 : BitVec 32 := 0#32
  let v304 : BitVec 1 := Scalar.cmpi .ne v303 c0_i32_166
  v304

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_247 : BitVec 32 := 0#32
  let c0_i32_248 : BitVec 32 := 0#32
  ![v2.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_167 : BitVec 32 := 0#32
  let v305 : BitVec 1 := Scalar.cmpi .ne v2 c0_i32_167
  let v306 : BitVec 32 := Scalar.extui v305
  let c0_i32_168 : BitVec 32 := 0#32
  let v307 : BitVec 1 := Scalar.cmpi .ne v306 c0_i32_168
  v307

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_169 : BitVec 32 := 1#32
  let v308 : BitVec 1 := Scalar.cmpi .ne v2 c1_i32_169
  let v309 : BitVec 32 := Scalar.extui v308
  let c0_i32_170 : BitVec 32 := 0#32
  let v310 : BitVec 1 := Scalar.cmpi .ne v309 c0_i32_170
  v310

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_171 : BitVec 32 := 2#32
  let v311 : BitVec 1 := Scalar.cmpi .ne v2 c2_i32_171
  let v312 : BitVec 32 := Scalar.extui v311
  let c0_i32_172 : BitVec 32 := 0#32
  let v313 : BitVec 1 := Scalar.cmpi .ne v312 c0_i32_172
  v313

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_173 : BitVec 32 := 3#32
  let v314 : BitVec 1 := Scalar.cmpi .ne v2 c3_i32_173
  let v315 : BitVec 32 := Scalar.extui v314
  let c0_i32_174 : BitVec 32 := 0#32
  let v316 : BitVec 1 := Scalar.cmpi .ne v315 c0_i32_174
  v316

def k0_off101 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_175 : BitVec 32 := 4#32
  let v317 : BitVec 1 := Scalar.cmpi .ne v2 c4_i32_175
  let v318 : BitVec 32 := Scalar.extui v317
  let c0_i32_176 : BitVec 32 := 0#32
  let v319 : BitVec 1 := Scalar.cmpi .ne v318 c0_i32_176
  v319

def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_177 : BitVec 32 := 5#32
  let v320 : BitVec 1 := Scalar.cmpi .ne v2 c5_i32_177
  let v321 : BitVec 32 := Scalar.extui v320
  let c0_i32_178 : BitVec 32 := 0#32
  let v322 : BitVec 1 := Scalar.cmpi .ne v321 c0_i32_178
  v322

def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_179 : BitVec 32 := 6#32
  let v323 : BitVec 1 := Scalar.cmpi .ne v2 c6_i32_179
  let v324 : BitVec 32 := Scalar.extui v323
  let c0_i32_180 : BitVec 32 := 0#32
  let v325 : BitVec 1 := Scalar.cmpi .ne v324 c0_i32_180
  v325

def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_181 : BitVec 32 := 7#32
  let v326 : BitVec 1 := Scalar.cmpi .ne v2 c7_i32_181
  let v327 : BitVec 32 := Scalar.extui v326
  let c0_i32_182 : BitVec 32 := 0#32
  let v328 : BitVec 1 := Scalar.cmpi .ne v327 c0_i32_182
  v328

def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_183 : BitVec 32 := 8#32
  let v329 : BitVec 1 := Scalar.cmpi .ne v2 c8_i32_183
  let v330 : BitVec 32 := Scalar.extui v329
  let c0_i32_184 : BitVec 32 := 0#32
  let v331 : BitVec 1 := Scalar.cmpi .ne v330 c0_i32_184
  v331

def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_185 : BitVec 32 := 9#32
  let v332 : BitVec 1 := Scalar.cmpi .ne v2 c9_i32_185
  let v333 : BitVec 32 := Scalar.extui v332
  let c0_i32_186 : BitVec 32 := 0#32
  let v334 : BitVec 1 := Scalar.cmpi .ne v333 c0_i32_186
  v334

def k0_off107 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_187 : BitVec 32 := 10#32
  let v335 : BitVec 1 := Scalar.cmpi .ne v2 c10_i32_187
  let v336 : BitVec 32 := Scalar.extui v335
  let c0_i32_188 : BitVec 32 := 0#32
  let v337 : BitVec 1 := Scalar.cmpi .ne v336 c0_i32_188
  v337

def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_189 : BitVec 32 := 11#32
  let v338 : BitVec 1 := Scalar.cmpi .ne v2 c11_i32_189
  let v339 : BitVec 32 := Scalar.extui v338
  let c0_i32_190 : BitVec 32 := 0#32
  let v340 : BitVec 1 := Scalar.cmpi .ne v339 c0_i32_190
  v340

def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_191 : BitVec 32 := 12#32
  let v341 : BitVec 1 := Scalar.cmpi .ne v2 c12_i32_191
  let v342 : BitVec 32 := Scalar.extui v341
  let c0_i32_192 : BitVec 32 := 0#32
  let v343 : BitVec 1 := Scalar.cmpi .ne v342 c0_i32_192
  v343

def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_193 : BitVec 32 := 13#32
  let v344 : BitVec 1 := Scalar.cmpi .ne v2 c13_i32_193
  let v345 : BitVec 32 := Scalar.extui v344
  let c0_i32_194 : BitVec 32 := 0#32
  let v346 : BitVec 1 := Scalar.cmpi .ne v345 c0_i32_194
  v346

def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_195 : BitVec 32 := 14#32
  let v347 : BitVec 1 := Scalar.cmpi .ne v2 c14_i32_195
  let v348 : BitVec 32 := Scalar.extui v347
  let c0_i32_196 : BitVec 32 := 0#32
  let v349 : BitVec 1 := Scalar.cmpi .ne v348 c0_i32_196
  v349

def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_197 : BitVec 32 := 15#32
  let v350 : BitVec 1 := Scalar.cmpi .ne v2 c15_i32_197
  let v351 : BitVec 32 := Scalar.extui v350
  let c0_i32_198 : BitVec 32 := 0#32
  let v352 : BitVec 1 := Scalar.cmpi .ne v351 c0_i32_198
  v352

def k0_off113 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_199 : BitVec 32 := 16#32
  let v353 : BitVec 1 := Scalar.cmpi .ne v2 c16_i32_199
  let v354 : BitVec 32 := Scalar.extui v353
  let c0_i32_200 : BitVec 32 := 0#32
  let v355 : BitVec 1 := Scalar.cmpi .ne v354 c0_i32_200
  v355

def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_201 : BitVec 32 := 17#32
  let v356 : BitVec 1 := Scalar.cmpi .ne v2 c17_i32_201
  let v357 : BitVec 32 := Scalar.extui v356
  let c0_i32_202 : BitVec 32 := 0#32
  let v358 : BitVec 1 := Scalar.cmpi .ne v357 c0_i32_202
  v358

def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_203 : BitVec 32 := 18#32
  let v359 : BitVec 1 := Scalar.cmpi .ne v2 c18_i32_203
  let v360 : BitVec 32 := Scalar.extui v359
  let c0_i32_204 : BitVec 32 := 0#32
  let v361 : BitVec 1 := Scalar.cmpi .ne v360 c0_i32_204
  v361

def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_205 : BitVec 32 := 19#32
  let v362 : BitVec 1 := Scalar.cmpi .ne v2 c19_i32_205
  let v363 : BitVec 32 := Scalar.extui v362
  let c0_i32_206 : BitVec 32 := 0#32
  let v364 : BitVec 1 := Scalar.cmpi .ne v363 c0_i32_206
  v364

def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_207 : BitVec 32 := 20#32
  let v365 : BitVec 1 := Scalar.cmpi .ne v2 c20_i32_207
  let v366 : BitVec 32 := Scalar.extui v365
  let c0_i32_208 : BitVec 32 := 0#32
  let v367 : BitVec 1 := Scalar.cmpi .ne v366 c0_i32_208
  v367

def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_209 : BitVec 32 := 21#32
  let v368 : BitVec 1 := Scalar.cmpi .ne v2 c21_i32_209
  let v369 : BitVec 32 := Scalar.extui v368
  let c0_i32_210 : BitVec 32 := 0#32
  let v370 : BitVec 1 := Scalar.cmpi .ne v369 c0_i32_210
  v370

def k0_off119 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_211 : BitVec 32 := 22#32
  let v371 : BitVec 1 := Scalar.cmpi .ne v2 c22_i32_211
  let v372 : BitVec 32 := Scalar.extui v371
  let c0_i32_212 : BitVec 32 := 0#32
  let v373 : BitVec 1 := Scalar.cmpi .ne v372 c0_i32_212
  v373

def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_213 : BitVec 32 := 23#32
  let v374 : BitVec 1 := Scalar.cmpi .ne v2 c23_i32_213
  let v375 : BitVec 32 := Scalar.extui v374
  let c0_i32_214 : BitVec 32 := 0#32
  let v376 : BitVec 1 := Scalar.cmpi .ne v375 c0_i32_214
  v376

def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_215 : BitVec 32 := 24#32
  let v377 : BitVec 1 := Scalar.cmpi .ne v2 c24_i32_215
  let v378 : BitVec 32 := Scalar.extui v377
  let c0_i32_216 : BitVec 32 := 0#32
  let v379 : BitVec 1 := Scalar.cmpi .ne v378 c0_i32_216
  v379

def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_217 : BitVec 32 := 25#32
  let v380 : BitVec 1 := Scalar.cmpi .ne v2 c25_i32_217
  let v381 : BitVec 32 := Scalar.extui v380
  let c0_i32_218 : BitVec 32 := 0#32
  let v382 : BitVec 1 := Scalar.cmpi .ne v381 c0_i32_218
  v382

def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_219 : BitVec 32 := 26#32
  let v383 : BitVec 1 := Scalar.cmpi .ne v2 c26_i32_219
  let v384 : BitVec 32 := Scalar.extui v383
  let c0_i32_220 : BitVec 32 := 0#32
  let v385 : BitVec 1 := Scalar.cmpi .ne v384 c0_i32_220
  v385

def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_221 : BitVec 32 := 27#32
  let v386 : BitVec 1 := Scalar.cmpi .ne v2 c27_i32_221
  let v387 : BitVec 32 := Scalar.extui v386
  let c0_i32_222 : BitVec 32 := 0#32
  let v388 : BitVec 1 := Scalar.cmpi .ne v387 c0_i32_222
  v388

def k0_off125 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_223 : BitVec 32 := 28#32
  let v389 : BitVec 1 := Scalar.cmpi .ne v2 c28_i32_223
  let v390 : BitVec 32 := Scalar.extui v389
  let c0_i32_224 : BitVec 32 := 0#32
  let v391 : BitVec 1 := Scalar.cmpi .ne v390 c0_i32_224
  v391

def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_225 : BitVec 32 := 29#32
  let v392 : BitVec 1 := Scalar.cmpi .ne v2 c29_i32_225
  let v393 : BitVec 32 := Scalar.extui v392
  let c0_i32_226 : BitVec 32 := 0#32
  let v394 : BitVec 1 := Scalar.cmpi .ne v393 c0_i32_226
  v394

def k0_off127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_227 : BitVec 32 := 30#32
  let v395 : BitVec 1 := Scalar.cmpi .ne v2 c30_i32_227
  let v396 : BitVec 32 := Scalar.extui v395
  let c0_i32_228 : BitVec 32 := 0#32
  let v397 : BitVec 1 := Scalar.cmpi .ne v396 c0_i32_228
  v397

def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_229 : BitVec 32 := 31#32
  let v398 : BitVec 1 := Scalar.cmpi .ne v2 c31_i32_229
  let v399 : BitVec 32 := Scalar.extui v398
  let c0_i32_230 : BitVec 32 := 0#32
  let v400 : BitVec 1 := Scalar.cmpi .ne v399 c0_i32_230
  v400

def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_242 : BitVec 32 := 0#32
  let c0_i32_243 : BitVec 32 := 0#32
  ![v2.toNat, 0, 0]
abbrev stage0_0 : Fin 1 → Memref sig .tc .vmem S768x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x16384 : Shape := ⟨2, ![768, 16384]⟩
abbrev S16384 : Shape := ⟨1, ![16384]⟩
abbrev S_ : Shape := ⟨0, ![]⟩
abbrev S768 : Shape := ⟨1, ![768]⟩
abbrev S768x1 : Shape := ⟨2, ![768, 1]⟩
abbrev S1x16384 : Shape := ⟨2, ![1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S768x16384, .f32⟩
  | .hbm, ⟨1, _⟩ => ⟨S16384, .f32⟩
  | .hbm, ⟨2, _⟩ => ⟨S768x16384, .f32⟩
  | .hbm, ⟨3, _⟩ => ⟨S_, .f32⟩
  | .hbm, ⟨4, _⟩ => ⟨S768, .f32⟩
  | .hbm, ⟨5, _⟩ => ⟨S768x1, .f32⟩
  | .hbm, ⟨6, _⟩ => ⟨S_, .f32⟩
  | .hbm, ⟨7, _⟩ => ⟨S768x1, .f32⟩
  | .hbm, ⟨8, _⟩ => ⟨S768x1, .f32⟩
  | .hbm, ⟨9, _⟩ => ⟨S_, .f32⟩
  | .hbm, ⟨10, _⟩ => ⟨S768x1, .f32⟩
  | .hbm, ⟨11, _⟩ => ⟨S768x1, .f32⟩
  | .hbm, ⟨12, _⟩ => ⟨S768x1, .f32⟩
  | .hbm, ⟨13, _⟩ => ⟨S1x16384, .f32⟩
  | .hbm, ⟨14, _⟩ => ⟨S768x16384, .f32⟩
  | .hbm, ⟨15, _⟩ => ⟨S768x16384, .f32⟩
  | .hbm, ⟨16, _⟩ => ⟨S768x16384, .f32⟩
  | .hbm, ⟨17, _⟩ => ⟨S768x16384, .f32⟩
  | _, _ => ⟨S768x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Steps.lean ====
/-
  The kernel's text with its four unrolled loops rolled up again.

  The kernel runs four loops over the 32 places of the mesh, each skipping the device's own place: it signals every
  other device's barrier, sends its row of partial sums to every other device, waits for every other device's row, and
  waits for its own sends to have left. Each loop is printed as 32 conditionals, spread over several parts. Here each
  loop is one function of the place (`signalStep`, `sendStep`, `recvStep`, `doneStep`), run over the list of places
  (`over`), and `body_eq` says that the printed body is the four loops with the loads and stores between them.
-/
module

public import proofs.«01_k».proof.Proof.Gen.KernelIdeal.Skeleton
public import Idealize.ShloMosaic.Lib.Pipeline.Regions

@[expose] public section

noncomputable section

namespace Cert.Proof

open Cert.KernelIdeal Cert.KernelIdeal.Gen
open Idealize.ShloMosaic Idealize.SL.Sem

variable {F : FTy → Type} [FloatOps F]

/-- A program of one TensorCore of the mesh, returning a value of type `α`. -/
abbrev TC (F : FTy → Type) (α : Type) := Prog (TpuEff nD τ sig (Elt F) Λ₀ .tc) α

/-- A loop over the places in `l`, in order, and then `k`: each turn is given what follows it. -/
def over {α : Type} (l : List (Fin 32)) (f : {β : Type} → Fin 32 → TC F β → TC F β) (k : TC F α) : TC F α :=
  match l with
  | [] => k
  | p :: l => f p (over l f k)

/-- The word the kernel branches on at place `p`: whether the device's own place is another one. -/
def elsewhere (p : Fin 32) (d : Dev nD) : BitVec 1 :=
  Scalar.cmpi .ne (Scalar.extui (Scalar.cmpi .ne (Scalar.remsi (Scalar.divsi (Dev.word d) 1#32) 32#32) (BitVec.ofNat 32 p.val)) : BitVec 32) 0#32

/-- It is one exactly when the device's place is not `p`. -/
theorem elsewhere_iff : ∀ (p : Fin 32) (d : Dev nD), elsewhere p d = 1#1 ↔ d ≠ p := by decide +kernel

/-- Place `p` of an array of 32 semaphores lies in the array. -/
theorem sem_inb : ∀ (p : Fin 32) (a : Fin S32.rank), (![p.val] : Fin 1 → Nat) a + S1.size a ≤ S32.size a := by decide +kernel
/-- Row `p` of the communication buffer lies in the buffer. -/
theorem row_inb : ∀ (p : Fin 32) (a : Fin S32x6x128.rank), (![p.val, 0, 0] : Fin 3 → Nat) a + S1x6x128.size a ≤ S32x6x128.size a := by
  decide +kernel

/-- The semaphore at place `p` of an array of 32. -/
abbrev semAt (a : DmaSems sig S32) (p : Fin 32) : DmaSems sig S_ :=
  (a.slice (Rect.unit (s := S32) ![p.val] S1.size (sem_inb p))).squeeze S_ squeezes_S1_S_
/-- Row `p` of the communication buffer. -/
abbrev rowAt (b : Memref sig .tc .vmem S32x6x128 .f32) (p : Fin 32) : Memref sig .tc .vmem S6x128 .f32 :=
  (b.slice (Rect.unit (s := S32x6x128) ![p.val, 0, 0] S1x6x128.size (row_inb p)) (fun _ => rfl)).squeeze S6x128 squeezes_S1x6x128_S6x128

/-- The semaphore at the device's own place, as the kernel computes the place. -/
abbrev semOwn (a : DmaSems sig S32) (d : Dev nD) (h : ∀ i, (k0_off2 d) i + S1.size i ≤ S32.size i) : DmaSems sig S_ :=
  (a.slice (Rect.unit (s := S32) (k0_off2 d) S1.size h)).squeeze S_ squeezes_S1_S_
/-- The device's own row of the communication buffer, as the kernel computes its place. -/
abbrev rowOwn (b : Memref sig .tc .vmem S32x6x128 .f32) (d : Dev nD) (h : ∀ i, (k0_off3 d) i + S1x6x128.size i ≤ S32x6x128.size i) :
    Memref sig .tc .vmem S6x128 .f32 :=
  (b.slice (Rect.unit (s := S32x6x128) (k0_off3 d) S1x6x128.size h) (fun _ => rfl)).squeeze S6x128 squeezes_S1x6x128_S6x128

/-- A device's own place lies in an array of 32 semaphores, -/
theorem own_sem_inb : ∀ (d : Dev nD) i, (k0_off2 d) i + S1.size i ≤ S32.size i := by decide +kernel
/-- and its own row in the communication buffer. -/
theorem own_row_inb : ∀ (d : Dev nD) i, (k0_off3 d) i + S1x6x128.size i ≤ S32x6x128.size i := by decide +kernel

/-- The barrier semaphore. -/
abbrev barS : Sems sig S_ := SemArray.scalar (sig.barrier 0 rfl)

/-- One turn of the first loop: one unit to device `p`'s barrier semaphore. -/
def signalStep {α : Type} (d : Dev nD) (p : Fin 32) (k : TC F α) : TC F α :=
  if _h : elsewhere p d = 1#1 then do semSignalWord (p : Dev nD) barS.sem 1#32; k else k

/-- One turn of the second loop: the device's own row to the same row of device `p`. -/
def sendStep {α : Type} (b : Memref sig .tc .vmem S32x6x128 .f32) (s r : DmaSems sig S32) (d : Dev nD) (p : Fin 32) (k : TC F α) : TC F α :=
  if _h : elsewhere p d = 1#1 then do
    Prog.lift (.enqueueDma (rowOwn b d (own_row_inb d)) (.remote (Dev.tc (p : Dev nD)) (rowOwn b d (own_row_inb d)) (.dma (semAt s p).sem))
      (.dma (semOwn r d (own_sem_inb d)).sem)
      ((View.wordExact_bits rfl).reshape _ _) ((View.wordExact_bits rfl).reshape _ _) ⟨⟨rfl, Or.inl rfl⟩, trivial⟩)
    k
  else k

/-- One turn of the third loop: wait until device `p`'s row has landed. -/
def recvStep {α : Type} (b : Memref sig .tc .vmem S32x6x128 .f32) (r : DmaSems sig S32) (d : Dev nD) (p : Fin 32) (k : TC F α) : TC F α :=
  if _h : elsewhere p d = 1#1 then do
    Prog.lift (.waitDma2 (semAt r p).sem (rowOwn b d (own_row_inb d)) (rowAt b p) ((View.wordExact_bits rfl).reshape _ _) ((View.wordExact_bits rfl).reshape _ _))
    k
  else k

/-- One turn of the fourth loop: wait until the row sent to device `p` has left. -/
def doneStep {α : Type} (b : Memref sig .tc .vmem S32x6x128 .f32) (s : DmaSems sig S32) (d : Dev nD) (p : Fin 32) (k : TC F α) : TC F α :=
  if _h : elsewhere p d = 1#1 then do
    Prog.lift (.waitDma2 (semAt s p).sem (rowOwn b d (own_row_inb d)) (rowOwn b d (own_row_inb d)) ((View.wordExact_bits rfl).reshape _ _) ((View.wordExact_bits rfl).reshape _ _))
    k
  else k

/-- What follows a turn may be taken inside it: of the signals, -/
theorem signalStep_bind {α β : Type} (d : Dev nD) (p : Fin 32) (k : TC F α) (h : α → TC F β) :
    signalStep d p k >>= h = signalStep d p (k >>= h) := by
  unfold signalStep; split <;> simp only [bind_assoc]
/-- of the sends, -/
theorem sendStep_bind {α β : Type} (b : Memref sig .tc .vmem S32x6x128 .f32) (s r : DmaSems sig S32) (d : Dev nD) (p : Fin 32) (k : TC F α)
    (h : α → TC F β) : sendStep b s r d p k >>= h = sendStep b s r d p (k >>= h) := by
  unfold sendStep; split <;> simp only [bind_assoc]
/-- of the waits for a row received -/
theorem recvStep_bind {α β : Type} (b : Memref sig .tc .vmem S32x6x128 .f32) (r : DmaSems sig S32) (d : Dev nD) (p : Fin 32) (k : TC F α)
    (h : α → TC F β) : recvStep b r d p k >>= h = recvStep b r d p (k >>= h) := by
  unfold recvStep; split <;> simp only [bind_assoc]
/-- and of the waits for a row sent. -/
theorem doneStep_bind {α β : Type} (b : Memref sig .tc .vmem S32x6x128 .f32) (s : DmaSems sig S32) (d : Dev nD) (p : Fin 32) (k : TC F α)
    (h : α → TC F β) : doneStep b s d p k >>= h = doneStep b s d p (k >>= h) := by
  unfold doneStep; split <;> simp only [bind_assoc]

/-- What follows a loop's part of the text may be taken inside it, once it may be taken inside each turn. -/
theorem over_bind {α β : Type} (l : List (Fin 32)) (f : {γ : Type} → Fin 32 → TC F γ → TC F γ)
    (hf : ∀ {γ δ : Type} (p : Fin 32) (k : TC F γ) (h : γ → TC F δ), f p k >>= h = f p (k >>= h)) (k : TC F α) (h : α → TC F β) :
    over l f k >>= h = over l f (k >>= h) := by
  induction l with
  | nil => rfl
  | cons p l ih => simp only [over, hf, ih]

/-- Two stretches of one loop are the loop over both. -/
theorem over_over {α : Type} (l l' : List (Fin 32)) (f : {γ : Type} → Fin 32 → TC F γ → TC F γ) (k : TC F α) :
    over l f (over l' f k) = over (l ++ l') f k := by
  induction l with
  | nil => rfl
  | cons p l ih => simp only [over, List.cons_append, ih]

/-- The 32 places, in order. -/
abbrev places : List (Fin 32) := List.finRange 32

section Parts

variable (x : Memref sig .tc .vmem S768x512 .f32) (hx : x.IsWhole) (g : Memref sig .tc .vmem S1x512 .f32) (hg : g.IsWhole)
  (o : Memref sig .tc .vmem S768x512 .f32) (ho : o.IsWhole) (b : Memref sig .tc .vmem S32x6x128 .f32) (hb : b.IsWhole)
  (s r : DmaSems sig S32)

/-! The parts of the printed text, each a stretch of one loop or of two with the accesses between them. -/

/-- The device's place and the first eight signals; -/
theorem part1_eq : k0_part1 (F := F) x hx g hg o ho b hb s r = (Prog.lift .deviceId >>= fun d =>
    over [0, 1, 2, 3, 4, 5, 6, 7] (signalStep d) (pure ⟨d, Scalar.remsi (Scalar.divsi (Dev.word d) 1#32) 32#32, barS⟩)) := by chain_rfl
/-- ten more signals; -/
theorem part2_eq (d : Dev nD) (v) : k0_part2 (F := F) x hx g hg o ho b hb s r d v barS
    = over [8, 9, 10, 11, 12, 13, 14, 15, 16, 17] (signalStep d) (pure ⟨⟩) := by chain_rfl
/-- ten more; -/
theorem part3_eq (d : Dev nD) (v) : k0_part3 (F := F) x hx g hg o ho b hb s r d v barS
    = over [18, 19, 20, 21, 22, 23, 24, 25, 26, 27] (signalStep d) (pure ⟨⟩) := by chain_rfl
/-- the last four, the own partial sums stored, the wait on the barrier, and the first three sends; -/
theorem part4_eq (d : Dev nD) (v) : k0_part4 (F := F) x hx g hg o ho b hb s r d v barS
    = over [28, 29, 30, 31] (signalStep d) (do
        let xv ← Prog.lift (.load x (Rect.unit (s := S768x512) ![0, 0] S768x512.size inb_S768x512_S768x512_0_0).toLoadRect (View.loadsAt_vmem h_S768x512))
        let _ ← Prog.lift (.load b (Rect.unit (s := S32x6x128) (k0_off1 d) S1x6x128.size (k0_off1_inb d)).toLoadRect (View.loadsAt_vmem h_S1x6x128))
        Prog.lift (.store b (Rect.unit (s := S32x6x128) (k0_off1 d) S1x6x128.size (k0_off1_inb d)) (k0_pay3 xv) Finset.univ
          (View.stores_vmem_bits_univ h_S1x6x128 rfl) (.inl rfl))
        semWaitWord barS.sem 31#32
        over [0, 1, 2] (sendStep b s r d) (pure (k0_pay2 xv))) := by chain_rfl
/-- ten more sends; -/
theorem part5_eq (d : Dev nD) (v) : k0_part5 (F := F) x hx g hg o ho b hb s r d v
    = over [3, 4, 5, 6, 7, 8, 9, 10, 11, 12] (sendStep b s r d) (pure ⟨⟩) := by chain_rfl
/-- ten more; -/
theorem part6_eq (d : Dev nD) (v) : k0_part6 (F := F) x hx g hg o ho b hb s r d v
    = over [13, 14, 15, 16, 17, 18, 19, 20, 21, 22] (sendStep b s r d) (pure ⟨⟩) := by chain_rfl
/-- the last nine, and the block weighted; -/
theorem part7_eq (d : Dev nD) (v xv) : k0_part7 (F := F) x hx g hg o ho b hb s r d v xv
    = over [23, 24, 25, 26, 27, 28, 29, 30, 31] (sendStep b s r d) (do
        let gv ← Prog.lift (.load g (Rect.unit (s := S1x512) ![0, 0] S1x512.size inb_S1x512_S1x512_0_0).toLoadRect (View.loadsAt_vmem h_S1x512))
        pure (k0_pay4 xv gv)) := by chain_rfl
/-- the first ten waits for a row received; -/
theorem part8_eq (d : Dev nD) (v) : k0_part8 (F := F) x hx g hg o ho b hb s r d v
    = over [0, 1, 2, 3, 4, 5, 6, 7, 8, 9] (recvStep b r d) (pure ⟨⟩) := by chain_rfl
/-- ten more; -/
theorem part9_eq (d : Dev nD) (v) : k0_part9 (F := F) x hx g hg o ho b hb s r d v
    = over [10, 11, 12, 13, 14, 15, 16, 17, 18, 19] (recvStep b r d) (pure ⟨⟩) := by chain_rfl
/-- ten more; -/
theorem part10_eq (d : Dev nD) (v) : k0_part10 (F := F) x hx g hg o ho b hb s r d v
    = over [20, 21, 22, 23, 24, 25, 26, 27, 28, 29] (recvStep b r d) (pure ⟨⟩) := by chain_rfl
/-- the last two, and the first eight waits for a row sent; -/
theorem part11_eq (d : Dev nD) (v) : k0_part11 (F := F) x hx g hg o ho b hb s r d v
    = over [30, 31] (recvStep b r d) (over [0, 1, 2, 3, 4, 5, 6, 7] (doneStep b s d) (pure ⟨⟩)) := by chain_rfl
/-- ten more; -/
theorem part12_eq (d : Dev nD) (v) : k0_part12 (F := F) x hx g hg o ho b hb s r d v
    = over [8, 9, 10, 11, 12, 13, 14, 15, 16, 17] (doneStep b s d) (pure ⟨⟩) := by chain_rfl
/-- ten more. -/
theorem part13_eq (d : Dev nD) (v) : k0_part13 (F := F) x hx g hg o ho b hb s r d v
    = over [18, 19, 20, 21, 22, 23, 24, 25, 26, 27] (doneStep b s d) (pure ⟨⟩) := by chain_rfl

/-- The end of the body: the whole buffer of partial sums is read, and the result is stored. -/
def finish (o : Memref sig .tc .vmem S768x512 .f32) (b : Memref sig .tc .vmem S32x6x128 .f32) (scaled : FVec F S768x512 .f32) : TC F PUnit := do
  let sums ← Prog.lift (.load b (Rect.unit (s := S32x6x128) ![0, 0, 0] S32x6x128.size inb_S32x6x128_S32x6x128_0_0_0).toLoadRect (View.loadsAt_vmem h_S32x6x128))
  let _ ← Prog.lift (.load o (Rect.unit (s := S768x512) ![0, 0] S768x512.size inb_S768x512_S768x512_0_0).toLoadRect (View.loadsAt_vmem h_S768x512))
  Prog.lift (.store o (Rect.unit (s := S768x512) ![0, 0] S768x512.size inb_S768x512_S768x512_0_0) (k0_pay1 scaled sums) Finset.univ
    (View.stores_vmem_bits_univ h_S768x512 rfl) (.inl rfl))
  pure ⟨⟩

/-- The body, its parts named and its last stretch rolled up. -/
theorem body_parts : cc0_body (F := F) x hx g hg o ho b hb s r = (do
    let i ← k0_part1 x hx g hg o ho b hb s r
    k0_part2 x hx g hg o ho b hb s r i.1 i.2.1 i.2.2
    k0_part3 x hx g hg o ho b hb s r i.1 i.2.1 i.2.2
    let xv ← k0_part4 x hx g hg o ho b hb s r i.1 i.2.1 i.2.2
    k0_part5 x hx g hg o ho b hb s r i.1 i.2.1
    k0_part6 x hx g hg o ho b hb s r i.1 i.2.1
    let xg ← k0_part7 x hx g hg o ho b hb s r i.1 i.2.1 xv
    k0_part8 x hx g hg o ho b hb s r i.1 i.2.1
    k0_part9 x hx g hg o ho b hb s r i.1 i.2.1
    k0_part10 x hx g hg o ho b hb s r i.1 i.2.1
    k0_part11 x hx g hg o ho b hb s r i.1 i.2.1
    k0_part12 x hx g hg o ho b hb s r i.1 i.2.1
    k0_part13 x hx g hg o ho b hb s r i.1 i.2.1
    over [28, 29, 30, 31] (doneStep b s i.1) (finish o b xg)) := by chain_rfl

/-- The kernel's body: the four loops over the places, and the loads and stores between them. -/
theorem body_eq : cc0_body (F := F) x hx g hg o ho b hb s r = (do
    let d ← Prog.lift .deviceId
    over places (signalStep d) (do
      let xv ← Prog.lift (.load x (Rect.unit (s := S768x512) ![0, 0] S768x512.size inb_S768x512_S768x512_0_0).toLoadRect (View.loadsAt_vmem h_S768x512))
      let _ ← Prog.lift (.load b (Rect.unit (s := S32x6x128) (k0_off1 d) S1x6x128.size (k0_off1_inb d)).toLoadRect (View.loadsAt_vmem h_S1x6x128))
      Prog.lift (.store b (Rect.unit (s := S32x6x128) (k0_off1 d) S1x6x128.size (k0_off1_inb d)) (k0_pay3 xv) Finset.univ
        (View.stores_vmem_bits_univ h_S1x6x128 rfl) (.inl rfl))
      semWaitWord barS.sem 31#32
      over places (sendStep b s r d) (do
        let gv ← Prog.lift (.load g (Rect.unit (s := S1x512) ![0, 0] S1x512.size inb_S1x512_S1x512_0_0).toLoadRect (View.loadsAt_vmem h_S1x512))
        over places (recvStep b r d) (over places (doneStep b s d) (finish o b (k0_pay4 (k0_pay2 xv) gv)))))) := by
  rw [body_parts, part1_eq]
  have hl : places = [0, 1, 2, 3, 4, 5, 6, 7, 8, 9, 10, 11, 12, 13, 14, 15, 16, 17, 18, 19, 20, 21, 22, 23, 24, 25, 26, 27, 28, 29, 30, 31] := by decide
  simp only [hl, bind_assoc, pure_bind, over_bind _ _ (signalStep_bind _), over_bind _ _ (sendStep_bind b s r _), over_bind _ _ (recvStep_bind b r _),
    over_bind _ _ (doneStep_bind b s _), over_over, List.cons_append, List.nil_append, part2_eq, part3_eq, part4_eq, part5_eq, part6_eq, part7_eq,
    part8_eq, part9_eq, part10_eq, part11_eq, part12_eq, part13_eq]

end Parts

end Cert.Proof

end
-- ==== Proof.Protocol.lean ====
/-
  The exchange of rows between the 32 devices as a schedule of payments.

  Every device has one barrier cell, 32 receive cells (one for each place whose row it receives) and 32 send cells (one
  for each place to which it sends its row). A cell sees one round. The barrier cell of device `c` is paid by each other
  place `q` with one unit, which lends `c` the row of `q`'s buffer that `c` is to fill. The receive cell `p` of device
  `c` is paid by place `p` with the row's credit, which hands `c` row `p` filled. The send cell `p` of device `c` is paid
  when the row has left for `p`, which gives back the share of its own row that the copy read.
-/
module

public import proofs.«01_k».proof.Proof.Steps
public import proofs.«01_k».proof.Proof.Gen.KernelIdeal.Launch
public import Idealize.ShloMosaic.Lib.Rounds
public import Idealize.ShloMosaic.Lib.Pipeline.Kit
public import Idealize.ShloMosaic.Lib.Pipeline.BigSepL
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The exchange's own ghost state: a cell's duties are named by places. -/
abbrev UX : Type := URounds (GSem nD τ sig) (Fin 32)
/-- The ghost state: the pipeline's and the exchange's. -/
abbrev UU : Type := UR sig nD τ × UX

local notation "𝕄" => MT nD τ sig Unit (Elt F) ℕ UU ℕ

/-- Where the pipeline's ghost state lies, -/
abbrev EP : Emb (UR sig nD τ) (MT nD τ sig Unit (Elt F) ℕ UU ℕ) := embL
/-- and the exchange's. -/
abbrev ER : Emb UX (MT nD τ sig Unit (Elt F) ℕ UU ℕ) := embR

/-! ## The cells -/

/-- The semaphore that counts the row sent to place `p` as it leaves, -/
abbrev sendS (p : Fin 32) : DmaSem sig := (semAt cc0_scratch1 p).sem
/-- and the one that counts the row of place `p` as it lands. -/
abbrev recvS (p : Fin 32) : DmaSem sig := (semAt cc0_scratch2 p).sem

/-- Device `c`'s barrier cell, -/
abbrev barCell (c : Dev nD) : GSem nD τ sig := ((c : Thread nD τ), .reg barS.sem)
/-- its send cell for place `p`, -/
abbrev sendCell (c : Dev nD) (p : Fin 32) : GSem nD τ sig := ((c : Thread nD τ), .dma (sendS p))
/-- and its receive cell for place `p`. -/
abbrev recvCell (c : Dev nD) (p : Fin 32) : GSem nD τ sig := ((c : Thread nD τ), .dma (recvS p))

/-- Where the send semaphores are numbered from -/
theorem sendS_val : ∀ p : Fin 32, (sendS p).val = 3 + p.val := by decide +kernel
/-- and where the receive semaphores are. -/
theorem recvS_val : ∀ p : Fin 32, (recvS p).val = 35 + p.val := by decide +kernel

/-- Send semaphores of different places differ, -/
theorem sendS_inj {p q : Fin 32} (h : sendS p = sendS q) : p = q := by
  have := congrArg Fin.val h; rw [sendS_val, sendS_val] at this; exact Fin.ext (by omega)
/-- receive semaphores of different places differ, -/
theorem recvS_inj {p q : Fin 32} (h : recvS p = recvS q) : p = q := by
  have := congrArg Fin.val h; rw [recvS_val, recvS_val] at this; exact Fin.ext (by omega)
/-- and no send semaphore is a receive semaphore. -/
theorem sendS_ne_recvS (p q : Fin 32) : sendS p ≠ recvS q := fun h => by
  have := congrArg Fin.val h; rw [sendS_val, recvS_val] at this; omega

/-! ## The rows of the communication buffer -/

/-- The communication buffer. -/
abbrev buf : Memref sig .tc .vmem S32x6x128 .f32 := Memref.whole cc0_scratch0
/-- Its row `p`. -/
abbrev row (p : Fin 32) : Memref sig .tc .vmem S6x128 .f32 := rowAt buf p

/-- The credit of a row's copy. -/
abbrev N : ℕ := (row 0).view.dmaCredit
/-- A row's copy gives some credit. -/
theorem N_pos : 0 < N := View.dmaCredit_pos _ (by decide)

/-- The row as the kernel computes its place is the device's own row. -/
theorem rowOwn_eq (d : Dev nD) (h) : rowOwn buf d h = row d := by
  have key : ∀ (o : Fin 3 → Nat) (_ : o = ![d.val, 0, 0]) (h : ∀ i, o i + S1x6x128.size i ≤ S32x6x128.size i),
      (buf.slice (Rect.unit (s := S32x6x128) o S1x6x128.size h) (fun _ => rfl)).squeeze S6x128 squeezes_S1x6x128_S6x128 = row d := by
    rintro _ rfl h; rfl
  exact key _ (k0_off3_eq d) h
/-- The semaphore as the kernel computes its place is the one at the device's own place. -/
theorem semOwn_eq (a : DmaSems sig S32) (d : Dev nD) (h) : semOwn a d h = semAt a d := by
  have key : ∀ (o : Fin 1 → Nat) (_ : o = ![d.val]) (h : ∀ i, o i + S1.size i ≤ S32.size i),
      (a.slice (Rect.unit (s := S32) o S1.size h)).squeeze S_ squeezes_S1_S_ = semAt a d := by
    rintro _ rfl h; rfl
  exact key _ (k0_off2_eq d) h

/-- The elements of row `p`: those whose first coordinate is `p`. -/
theorem mem_row (p : Fin 32) (i : S32x6x128.Idx) : i ∈ (row p).view.set ↔ (i 0).val = p.val := by
  have h : (row p).view.set = (Rect.unit (s := S32x6x128) ![p.val, 0, 0] S1x6x128.size (row_inb p)).set :=
    (View.set_reshape _ _).trans (View.set_slice_whole _ _)
  rw [h, Rect.mem_set_unit]
  constructor
  · intro hi
    have := hi 0
    simp at this
    omega
  · intro hi a
    have h1 := (i 1).isLt
    have h2 := (i 2).isLt
    fin_cases a <;> simp at h1 h2 ⊢ <;> omega

/-- Row `p` of device `c`'s buffer, held at share `q` with contents `f`. -/
def rowPts (c : Dev nD) (p : Fin 32) (q : PosShare TreeShare) (f : cc0_scratch0.ty.Contents (Elt F)) : sProp 𝕄 :=
  (row p).view.loc (c : Thread nD τ) ↦[(row p).view.set]{q} f

/-- A row held is something a cell can keep for another device, -/
instance rowPts_storable (c : Dev nD) (p : Fin 32) (q) (f) : BI.Storable (upEmb : UEmb _ 𝕄) (rowPts (F := F) c p q f) := by
  unfold rowPts; infer_instance

/-- What is left of the own row's share after the copies to the places below `n` have taken theirs, -/
def left : ℕ → PosShare TreeShare
  | 0 => fullShare
  | n + 1 => (left n).right
/-- and the share that the copy to place `p` reads with. -/
def give (p : Fin 32) : PosShare TreeShare := (left p.val).left

/-! ## The schedule -/

/-- What every device's buffer holds at the end: row `p` is the row of partial sums that place `p` makes of its block `X p`. -/
def sums (X : Dev nD → FVec F S768x512 .f32) : cc0_scratch0.ty.Contents (Elt F) :=
  fun i => k0_pay3 (X (i 0)) (fun a => match a with
    | ⟨0, _⟩ => (0 : Fin 1)
    | ⟨1, _⟩ => (i 1 : Fin 6)
    | ⟨2, _⟩ => (i 2 : Fin 128))

variable (X : Dev nD → FVec F S768x512 .f32)

/-- What place `q` lends device `c` by its unit: row `c` of `q`'s buffer, whose receive cell for `c` is at its round. -/
def barPay (c : Dev nD) (q : Fin 32) : sProp 𝕄 := iprop((∃ f, rowPts q c fullShare f) ∗ reached ER (recvCell q c) 0)
/-- What place `p`'s copy hands device `c`: row `p`, filled. -/
def recvPay (c : Dev nD) (p : Fin 32) : sProp 𝕄 := rowPts c p fullShare (sums X)
/-- What the copy to place `p` gives back to device `c`: its share of the own row. -/
def sendPay (c : Dev nD) (p : Fin 32) : sProp 𝕄 := rowPts c c (give p) (sums X)

/-- One round in each cell, paid by the places other than the device's own. -/
def rd : Rounds.Schedule (GSem nD τ sig) (Fin 32) 𝕄 where
  duties g r := if r = 0 ∧ g.1.2 = .tc then
    Finset.univ.filter fun d : Fin 32 => d ≠ g.1.1 ∧ (g.2 = .reg barS.sem ∨ g.2 = .dma (sendS d) ∨ g.2 = .dma (recvS d)) else ∅
  unitless _ := False
  amount g _ _ := if g.2 = .reg barS.sem then 1 else N
  payload g _ d :=
    if g.2 = .reg barS.sem then barPay g.1.1 d
    else if g.2 = .dma (recvS d) then recvPay X g.1.1 d
    else if g.2 = .dma (sendS d) then sendPay X g.1.1 d
    else iprop(emp)
  amount_pos g _ _ _ := by
    by_cases h : g.2 = .reg barS.sem
    · rw [if_pos h]; exact Nat.one_pos
    · rw [if_neg h]; exact N_pos

/-- and so is every payload of the schedule. -/
instance rd_payload_storable (g : GSem nD τ sig) (r : ℕ) (d : Fin 32) : BI.Storable (upEmb : UEmb _ 𝕄) ((rd (F := F) X).payload g r d) := by
  show BI.Storable upEmb (if g.2 = .reg barS.sem then barPay g.1.1 d else if g.2 = .dma (recvS d) then recvPay X g.1.1 d
    else if g.2 = .dma (sendS d) then sendPay X g.1.1 d else iprop(emp))
  unfold barPay recvPay sendPay
  (repeat' split) <;> infer_instance

section Sched
variable (c : Dev nD) (p d : Fin 32)

/-- No copy semaphore is the barrier's. -/
theorem bar_ne_dma (q : DmaSem sig) : (SemLoc.dma q : SemLoc sig) ≠ .reg barS.sem := fun h => by cases h
/-- Copy semaphores at the same location are the same. -/
theorem dma_inj {q q' : DmaSem sig} (h : (SemLoc.dma q : SemLoc sig) = .dma q') : q = q' := by cases h; rfl

/-- Every other device pays the barrier cell of `c`; -/
theorem duties_bar : (rd X).duties (barCell c) 0 = Finset.univ.erase c := by
  dsimp only [rd]; rw [if_pos ⟨rfl, rfl⟩]
  ext d
  simp only [Finset.mem_filter, Finset.mem_univ, true_and, Finset.mem_erase, ne_eq, true_or, and_true]
/-- the copy to place `p` alone pays the send cell for `p`; -/
theorem duties_send (h : p ≠ c) : (rd X).duties (sendCell c p) 0 = {p} := by
  dsimp only [rd]; rw [if_pos ⟨rfl, rfl⟩]
  ext d
  rw [Finset.mem_filter, Finset.mem_singleton]
  constructor
  · rintro ⟨-, -, h | h | h⟩
    · exact absurd h (bar_ne_dma _)
    · exact (sendS_inj (dma_inj h)).symm
    · exact absurd (dma_inj h) (sendS_ne_recvS _ _)
  · rintro rfl; exact ⟨Finset.mem_univ _, h, .inr (.inl rfl)⟩
/-- the device at place `p` alone pays the receive cell for `p`. -/
theorem duties_recv (h : p ≠ c) : (rd X).duties (recvCell c p) 0 = {p} := by
  dsimp only [rd]; rw [if_pos ⟨rfl, rfl⟩]
  ext d
  rw [Finset.mem_filter, Finset.mem_singleton]
  constructor
  · rintro ⟨-, -, h | h | h⟩
    · exact absurd h (bar_ne_dma _)
    · exact absurd (dma_inj h).symm (sendS_ne_recvS _ _)
    · exact (recvS_inj (dma_inj h)).symm
  · rintro rfl; exact ⟨Finset.mem_univ _, h, .inr (.inr rfl)⟩
/-- Nothing is paid on a device's send cell for its own place, -/
theorem duties_send_own (r : ℕ) : (rd X).duties (sendCell c c) r = ∅ := by
  dsimp only [rd]; split
  · refine Finset.filter_eq_empty_iff.mpr fun d _ h => ?_
    rcases h with ⟨hd, h | h | h⟩
    · exact bar_ne_dma _ h
    · exact hd (sendS_inj (dma_inj h)).symm
    · exact sendS_ne_recvS _ _ (dma_inj h)
  · rfl
/-- nor on its receive cell for it. -/
theorem duties_recv_own (r : ℕ) : (rd X).duties (recvCell c c) r = ∅ := by
  dsimp only [rd]; split
  · refine Finset.filter_eq_empty_iff.mpr fun d _ h => ?_
    rcases h with ⟨hd, h | h | h⟩
    · exact bar_ne_dma _ h
    · exact sendS_ne_recvS _ _ (dma_inj h).symm
    · exact hd (recvS_inj (dma_inj h)).symm
  · rfl
/-- After the first round nothing is paid. -/
theorem duties_later (g : GSem nD τ sig) (r : ℕ) (hr : 1 ≤ r) : (rd X).duties g r = ∅ := by
  dsimp only [rd]; exact if_neg fun h => by omega

/-- A signal is one unit; -/
theorem amount_bar : (rd X).amount (barCell c) 0 d = 1 := by dsimp only [rd]; exact if_pos rfl
/-- a row sent is a row's credit; -/
theorem amount_send : (rd X).amount (sendCell c p) 0 d = N := by dsimp only [rd]; exact if_neg (bar_ne_dma _)
/-- a row received is a row's credit. -/
theorem amount_recv : (rd X).amount (recvCell c p) 0 d = N := by dsimp only [rd]; exact if_neg (bar_ne_dma _)

/-- A barrier cell is paid 31 units in all, -/
theorem expect_bar : (rd X).expect (barCell c) 0 = 31 := by
  unfold Schedule.expect Schedule.amountOf
  rw [duties_bar, Finset.sum_congr rfl fun d _ => amount_bar X c d, Finset.sum_const, Finset.card_erase_of_mem (Finset.mem_univ _), Finset.card_univ,
    Fintype.card_fin, smul_eq_mul]
/-- a send cell one row's credit, -/
theorem expect_send (h : p ≠ c) : (rd X).expect (sendCell c p) 0 = N := by
  unfold Schedule.expect Schedule.amountOf; rw [duties_send X c p h, Finset.sum_singleton, amount_send]
/-- a receive cell one row's credit. -/
theorem expect_recv (h : p ≠ c) : (rd X).expect (recvCell c p) 0 = N := by
  unfold Schedule.expect Schedule.amountOf; rw [duties_recv X c p h, Finset.sum_singleton, amount_recv]

/-- A signal hands over the row it lends; -/
theorem payload_bar : (rd X).payload (barCell c) 0 d = barPay c d := by dsimp only [rd]; exact if_pos rfl
/-- a row sent hands back the share it was read through; -/
theorem payload_send : (rd X).payload (sendCell c p) 0 p = sendPay X c p := by
  dsimp only [rd]; rw [if_neg (bar_ne_dma _), if_neg (fun h => sendS_ne_recvS _ _ (dma_inj h)), if_pos rfl]
/-- a row received hands over that row, holding the sender's sums. -/
theorem payload_recv : (rd X).payload (recvCell c p) 0 p = recvPay X c p := by
  dsimp only [rd]; rw [if_neg (bar_ne_dma _), if_pos rfl]

/-- All that a wait on the barrier cell gives: the rows lent by every other device. -/
theorem rest_bar : bigSep ((rd X).duties (barCell c) 0 \ ∅) (fun d => (rd X).payload (barCell c) 0 d) = bigSep (Finset.univ.erase c) (barPay (F := F) c) := by
  rw [Finset.sdiff_empty, duties_bar]; exact bigSep_congr fun d _ => payload_bar X c d
/-- All that a wait on a send cell gives, -/
theorem rest_send (h : p ≠ c) : bigSep ((rd X).duties (sendCell c p) 0 \ ∅) (fun d => (rd X).payload (sendCell c p) 0 d) = sendPay X c p := by
  rw [Finset.sdiff_empty, duties_send X c p h, bigSep_singleton, payload_send]
/-- and on a receive cell. -/
theorem rest_recv (h : p ≠ c) : bigSep ((rd X).duties (recvCell c p) 0 \ ∅) (fun d => (rd X).payload (recvCell c p) 0 d) = recvPay X c p := by
  rw [Finset.sdiff_empty, duties_recv X c p h, bigSep_singleton, payload_recv]

end Sched

/-! ## What each device owes, and the levels -/

/-- The sum of `f` over the places of a list other than the device's own. -/
def due (d : Dev nD) (f : Fin 32 → CellTallies nD τ sig Unit) (l : List (Fin 32)) : CellTallies nD τ sig Unit :=
  (l.map fun p => if p = d then 0 else f p).sum

/-- Nothing is due to no place; -/
theorem due_nil (d : Dev nD) (f) : due d f [] = 0 := rfl
/-- the own place adds nothing; -/
theorem due_own (d : Dev nD) (f) (l : List (Fin 32)) : due d f (d :: l) = due d f l := by
  unfold due; rw [List.map_cons, List.sum_cons, if_pos rfl, zero_add]
/-- another place adds its own part. -/
theorem due_cons (d : Dev nD) (f) (p : Fin 32) (l : List (Fin 32)) (h : p ≠ d) : due d f (p :: l) = due d f l + f p := by
  unfold due; rw [List.map_cons, List.sum_cons, if_neg h, add_comm]

/-- Whatever is owed by a device is owed to some other place's cell. -/
theorem due_pos {d : Dev nD} {f : Fin 32 → CellTallies nD τ sig Unit} {l : List (Fin 32)} {g : GSem nD τ sig} {u : Unit}
    (h : 0 < due d f l g u) : ∃ p, 0 < f p g u := by
  induction l with
  | nil => exact absurd h (Nat.lt_irrefl 0)
  | cons p l ih =>
    by_cases hp : p = d
    · subst hp; rw [due_own] at h; exact ih h
    · rw [due_cons d f p l hp, Pi.add_apply, Finsupp.add_apply] at h
      by_cases h0 : 0 < f p g u
      · exact ⟨p, h0⟩
      · exact ih (by omega)

/-- A device owes every other place's receive cell for it the row's credit, -/
def oweRows (d : Dev nD) (l : List (Fin 32)) : CellTallies nD τ sig Unit := due d (fun p => tallyAt (recvCell p d) () N) l
/-- and every other place's barrier cell one unit. -/
def oweUnits (d : Dev nD) (l : List (Fin 32)) : CellTallies nD τ sig Unit := due d (fun p => tallyAt (barCell p) () 1) l
/-- What a device owes at launch. -/
def owe (d : Dev nD) : CellTallies nD τ sig Unit := oweRows d places + oweUnits d places

/-- Every cell of a core has the one index. -/
def L (g : GSem nD τ sig) : Finset Unit := if g.1.2 = .tc then {()} else ∅
/-- Barrier cells lie at level one, receive cells at two, all others at zero. -/
def lv (g : GSem nD τ sig) (_ : Unit) : ℕ := if g.2 = .reg barS.sem then 1 else if ∃ p, g.2 = .dma (recvS p) then 2 else 0

/-- Other processors' cells have no index; -/
theorem L_of_ne (g : GSem nD τ sig) (h : g.1.2 ≠ .tc) : L g = ∅ := if_neg h
/-- a core's cell has the one index, -/
theorem L_tc (c : Dev nD) (sm : SemLoc sig) : L ((c : Thread nD τ), sm) = {()} := if_pos rfl
/-- which is any index. -/
theorem mem_L (c : Dev nD) (sm : SemLoc sig) (u : Unit) : u ∈ L ((c : Thread nD τ), sm) := by rw [L_tc]; exact Finset.mem_singleton_self _
/-- A barrier cell lies at level one, -/
theorem lv_bar (c : Dev nD) (u : Unit) : lv (barCell c) u = 1 := if_pos rfl
/-- a receive cell at level two. -/
theorem lv_recv (c : Dev nD) (p : Fin 32) (u : Unit) : lv (recvCell c p) u = 2 := by
  unfold lv; rw [if_neg (bar_ne_dma _), if_pos ⟨p, rfl⟩]

/-- A row owed is owed to a receive cell for the device, -/
theorem oweRows_pos {d : Dev nD} {l : List (Fin 32)} {g : GSem nD τ sig} {u : Unit} (h : 0 < oweRows d l g u) : ∃ p, g = recvCell p d := by
  obtain ⟨p, hp⟩ := due_pos h
  rw [tallyAt_apply] at hp
  by_contra hn
  rw [if_neg (fun h' => hn ⟨p, h'.1⟩)] at hp
  exact Nat.lt_irrefl 0 hp
/-- and a unit owed to a barrier cell. -/
theorem oweUnits_pos {d : Dev nD} {l : List (Fin 32)} {g : GSem nD τ sig} {u : Unit} (h : 0 < oweUnits d l g u) : ∃ p, g = barCell p := by
  obtain ⟨p, hp⟩ := due_pos h
  rw [tallyAt_apply] at hp
  by_contra hn
  rw [if_neg (fun h' => hn ⟨p, h'.1⟩)] at hp
  exact Nat.lt_irrefl 0 hp

/-- At its barrier wait a device owes rows only, and receive cells lie above its barrier cell. -/
theorem mayWait_bar (c : Dev nD) : (levAts L lv : sProp 𝕄) ⊢ MayWait (c : Thread nD τ) (.reg barS.sem) () (oweRows c places) :=
  MayOwe.of_cut (L := L) (lev := lv) 1 (fun p hp => by rw [Finset.mem_singleton.mp hp]; exact mem_L _ _ _)
    (fun g u hg => by obtain ⟨p, rfl⟩ := oweRows_pos hg; exact mem_L _ _ _)
    (fun p hp => by rw [Finset.mem_singleton.mp hp]; exact le_of_eq (lv_bar c _))
    (fun g u hg => by obtain ⟨p, rfl⟩ := oweRows_pos hg; rw [lv_recv]; exact Nat.one_lt_two)

/-- Whatever is owed at launch lies above level zero. -/
theorem owe_cut {c : Dev nD} {g : GSem nD τ sig} {u : Unit} (h : 0 < owe c g u) : u ∈ L g ∧ 0 < lv g u := by
  unfold owe at h
  rw [Pi.add_apply, Finsupp.add_apply] at h
  by_cases h1 : 0 < oweRows c places g u
  · obtain ⟨p, rfl⟩ := oweRows_pos h1; exact ⟨mem_L _ _ _, by rw [lv_recv]; exact Nat.two_pos⟩
  · obtain ⟨p, rfl⟩ := oweUnits_pos (show 0 < oweUnits c places g u by omega); exact ⟨mem_L _ _ _, by rw [lv_bar]; exact Nat.one_pos⟩

end Cert.Proof
-- ==== Proof.Loops.lean ====
/-
  The four loops of the kernel, each by induction on the list of places from the statement about one turn.
-/
module

public import proofs.«01_k».proof.Proof.Protocol

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S768x512 .f32)

/-! ## All the cells -/

/-- A device's copy semaphores: for each place the one counting the row sent and the one counting the row received. -/
abbrev copyS : Bool × Fin 32 → SemLoc sig := fun k => .dma (if k.1 then sendS k.2 else recvS k.2)

/-- The copy semaphores of a device are 64 different ones. -/
theorem copyS_inj : Function.Injective copyS := by
  rintro ⟨b, p⟩ ⟨b', p'⟩ h
  have h := dma_inj h
  cases b <;> cases b'
  · have := recvS_inj h; subst this; rfl
  · exact absurd h.symm (sendS_ne_recvS _ _)
  · exact absurd h (sendS_ne_recvS _ _)
  · have := sendS_inj h; subst this; rfl

/-- Barrier cells of different devices differ. -/
theorem barCell_inj : Function.Injective barCell := fun c c' h => congrArg (fun g : GSem nD τ sig => g.1.1) h
/-- Every device's copy cells. -/
abbrev copyCell (ck : Dev nD × Bool × Fin 32) : GSem nD τ sig := ((ck.1 : Thread nD τ), copyS ck.2)
/-- All the copy cells differ. -/
theorem copyCell_inj : Function.Injective copyCell := by
  rintro ⟨c, k⟩ ⟨c', k'⟩ h
  have h1 : c = c' := congrArg (fun g : GSem nD τ sig => g.1.1) h
  have h2 : k = k' := copyS_inj (congrArg Prod.snd h)
  rw [h1, h2]

/-- The barrier cells of all devices, -/
def barCells : Finset (GSem nD τ sig) := Finset.univ.map ⟨barCell, barCell_inj⟩
/-- and their copy cells. -/
def copyCells : Finset (GSem nD τ sig) := Finset.univ.map ⟨copyCell, copyCell_inj⟩

/-- A device's barrier cell is among the barrier cells, -/
theorem mem_barCells (c : Dev nD) : barCell c ∈ barCells := Finset.mem_map_of_mem ⟨barCell, barCell_inj⟩ (Finset.mem_univ c)
/-- its send cells are among the copy cells -/
theorem mem_sendCells (c : Dev nD) (p : Fin 32) : sendCell c p ∈ copyCells :=
  Finset.mem_map_of_mem ⟨copyCell, copyCell_inj⟩ (Finset.mem_univ (c, true, p))
/-- and so are its receive cells. -/
theorem mem_recvCells (c : Dev nD) (p : Fin 32) : recvCell c p ∈ copyCells :=
  Finset.mem_map_of_mem ⟨copyCell, copyCell_inj⟩ (Finset.mem_univ (c, false, p))
/-- No barrier cell is a copy cell. -/
theorem cells_disjoint : Disjoint barCells copyCells := by
  rw [Finset.disjoint_left]
  intro g h h'
  obtain ⟨c, -, rfl⟩ := Finset.mem_map.mp h
  obtain ⟨ck, -, h⟩ := Finset.mem_map.mp h'
  exact bar_ne_dma _ (congrArg Prod.snd h)

/-- What every device may use at any time: each cell follows the schedule, under the name `κ` gives it, and every barrier
    cell has reached its round. -/
def recs (κ : GSem nD τ sig → ℕ) : sProp 𝕄 :=
  iprop((bigSep (barCells ∪ copyCells) fun g => cellInv ER (rd X) (κ g) g) ∗ bigSep barCells fun g => reached ER g 0)

/-- These facts may be used again and again. -/
instance recs_persistent (κ : GSem nD τ sig → ℕ) : BI.Persistent (recs X κ) := by unfold recs; infer_instance

variable (κ : GSem nD τ sig → ℕ)

/-- Each cell follows the schedule: -/
theorem recs_inv {g : GSem nD τ sig} (hg : g ∈ barCells ∪ copyCells) : recs X κ ⊢ cellInv ER (rd X) (κ g) g := by
  unfold recs; iintro ⟨H, -⟩
  iapply (show (bigSep (barCells ∪ copyCells) fun g => cellInv ER (rd X) (κ g) g) ⊢ cellInv ER (rd X) (κ g) g from bigSep_elim hg) $$ H
/-- a barrier cell, -/
theorem recs_bar (c : Dev nD) : recs X κ ⊢ cellInv ER (rd X) (κ (barCell c)) (barCell c) :=
  recs_inv X κ (Finset.mem_union_left _ (mem_barCells c))
/-- a send cell -/
theorem recs_send (c : Dev nD) (p : Fin 32) : recs X κ ⊢ cellInv ER (rd X) (κ (sendCell c p)) (sendCell c p) :=
  recs_inv X κ (Finset.mem_union_right _ (mem_sendCells c p))
/-- and a receive cell. -/
theorem recs_recv (c : Dev nD) (p : Fin 32) : recs X κ ⊢ cellInv ER (rd X) (κ (recvCell c p)) (recvCell c p) :=
  recs_inv X κ (Finset.mem_union_right _ (mem_recvCells c p))
/-- A barrier cell has reached its round. -/
theorem recs_reached (c : Dev nD) : recs X κ ⊢ reached ER (barCell c) 0 := by
  unfold recs; iintro ⟨-, H⟩
  iapply (show (bigSep barCells fun g => (reached ER g 0 : sProp 𝕄)) ⊢ reached ER (barCell c) 0 from bigSep_elim (mem_barCells c)) $$ H

/-! ## Families over the other places -/

/-- `A` at another place, nothing at the device's own. -/
def away (c p : Fin 32) (A : sProp 𝕄) : sProp 𝕄 := if p = c then iprop(emp) else A

/-- At the own place nothing is held; -/
theorem away_own (c : Fin 32) (A : sProp 𝕄) : away c c A = iprop(emp) := if_pos rfl
/-- at another place `A` is. -/
theorem away_ne {c p : Fin 32} (h : p ≠ c) (A : sProp 𝕄) : away c p A = A := if_neg h

/-- A family over the places, its member at the own place apart. -/
theorem bigSep_apart (c : Fin 32) (Φ : Fin 32 → sProp 𝕄) : bigSep Finset.univ Φ = iprop(Φ c ∗ bigSep (Finset.univ.erase c) Φ) :=
  BI.bigSep_erase (i := c) (Finset.mem_univ c)

/-- A family over the other places is one over all places with nothing at the own one. -/
theorem bigSep_away (c : Fin 32) (Φ : Fin 32 → sProp 𝕄) :
    bigSep (Finset.univ.erase c) Φ ⊢ bigSep Finset.univ fun p => away c p (Φ p) := by
  rw [bigSep_apart c fun p => away c p (Φ p), away_own]
  iintro H
  isplitr; · iempintro
  iapply (show bigSep (Finset.univ.erase c) Φ ⊢ bigSep (Finset.univ.erase c) fun p => away c p (Φ p) from
    bigSep_mono fun p hp => Entails.of_eq (away_ne (Finset.ne_of_mem_erase hp) _).symm) $$ H

/-- A family over the places is its member at the own place and the family over the others. -/
theorem bigSep_own (c : Fin 32) (Φ : Fin 32 → sProp 𝕄) :
    bigSep Finset.univ Φ ⊢ iprop(Φ c ∗ bigSep Finset.univ fun p => away c p (Φ p)) := by
  rw [bigSep_apart c Φ]
  iintro ⟨H, H'⟩
  isplitl [H]; · iexact H
  iapply (bigSep_away c Φ) $$ H'

/-- And back. -/
theorem bigSep_own_back (c : Fin 32) (Φ : Fin 32 → sProp 𝕄) :
    iprop(Φ c ∗ bigSep Finset.univ fun p => away c p (Φ p)) ⊢ bigSep Finset.univ Φ := by
  rw [bigSep_apart c Φ, bigSep_apart c fun p => away c p (Φ p)]
  iintro ⟨H, -, H'⟩
  isplitl [H]; · iexact H
  iapply (show (bigSep (Finset.univ.erase c) fun p => away c p (Φ p)) ⊢ bigSep (Finset.univ.erase c) Φ from
    bigSep_mono fun p hp => Entails.of_eq (away_ne (Finset.ne_of_mem_erase hp) _)) $$ H'

/-- A family over the places, as the chain over their list. -/
theorem bigSep_places (Φ : Fin 32 → sProp 𝕄) : bigSep Finset.univ Φ = bigSepL places Φ :=
  bigSep_univ_eq_bigSepL places (by decide +kernel) (List.nodup_finRange 32) Φ

/-! ## A loop from its turns -/

/-- No variant is used by the kernel. -/
abbrev 𝒱₀ : Variants := Variants.none

/-- The program `k` on device `c` runs safely and ends in `Q`. -/
abbrev runs {α : Type} (c : Dev nD) (k : TC F α) (Q : α → sProp 𝕄) : sProp 𝕄 :=
  wp frame (wpE (defs₀ (F := F)) 𝒱₀ (c : Thread nD τ) none) Set.univ k Q

/-- A loop whose turn at `p` takes `I (p :: l)` and `Res p` to `I l` and `Out p` takes `I l` and all of `Res` to `I []` and all of `Out`. -/
theorem runs_over {α : Type} (c : Dev nD) (f : {β : Type} → Fin 32 → TC F β → TC F β) (Q : α → sProp 𝕄)
    (I : List (Fin 32) → sProp 𝕄) (Res Out : Fin 32 → sProp 𝕄)
    (hstep : ∀ (p : Fin 32) (l : List (Fin 32)) (k : TC F α),
      iprop(I (p :: l) ∗ Res p) ⊢ iprop(((I l ∗ Out p) -∗ runs c k Q) -∗ runs c (f p k) Q))
    (k : TC F α) : ∀ l : List (Fin 32), iprop(I l ∗ bigSepL l Res) ⊢ iprop(((I [] ∗ bigSepL l Out) -∗ runs c k Q) -∗ runs c (over l f k) Q)
  | [] => by
    iintro ⟨HI, HR⟩ Hk
    iapply Hk
    isplitl [HI]; · iexact HI
    rw [show bigSepL [] Out = iprop(emp) from rfl]; iempintro
  | p :: l => by
    rw [bigSepL_cons', bigSepL_cons']
    iintro ⟨HI, HR, HRs⟩ Hk
    iapply (hstep p l (over l f k)) $$ [HI HR]
    · isplitl [HI] <;> iassumption
    iintro ⟨HI, HO⟩
    iapply (runs_over c f Q I Res Out hstep k l) $$ [HI HRs]
    · isplitl [HI] <;> iassumption
    iintro ⟨HI, HOs⟩
    iapply Hk
    isplitl [HI]; · iexact HI
    isplitl [HO] <;> iassumption

/-- The same over all the places. -/
theorem runs_loop {α : Type} (c : Dev nD) (f : {β : Type} → Fin 32 → TC F β → TC F β) (Q : α → sProp 𝕄)
    (I : List (Fin 32) → sProp 𝕄) (Res Out : Fin 32 → sProp 𝕄)
    (hstep : ∀ (p : Fin 32) (l : List (Fin 32)) (k : TC F α),
      iprop(I (p :: l) ∗ Res p) ⊢ iprop(((I l ∗ Out p) -∗ runs c k Q) -∗ runs c (f p k) Q))
    (k : TC F α) :
    iprop(I places ∗ bigSep Finset.univ Res) ⊢ iprop(((I [] ∗ bigSep Finset.univ Out) -∗ runs c k Q) -∗ runs c (over places f k) Q) := by
  rw [bigSep_places Res, bigSep_places Out]
  exact runs_over c f Q I Res Out hstep k places

/-! ## The turns -/

/-- A device owing `O`, with the cells at hand: what each loop carries. -/
def owing (c : Dev nD) (O : CellTallies nD τ sig Unit) : sProp 𝕄 := iprop(recs X κ ∗ ∃ W, owes (c : Thread nD τ) O W)

/-- The signal to place `p` lends it row `p` of the device's buffer, and pays one unit. -/
theorem signal_turn {α : Type} (c : Dev nD) (Q : α → sProp 𝕄) (p : Fin 32) (l : List (Fin 32)) (k : TC F α) :
    iprop(owing X κ c (oweRows c places + oweUnits c (p :: l))
        ∗ (dutyTok ER (barCell p) 0 c ∗ reached ER (recvCell c p) 0 ∗ away c p iprop(∃ f, rowPts c p fullShare f)))
      ⊢ iprop(((owing X κ c (oweRows c places + oweUnits c l) ∗ emp) -∗ runs c k Q) -∗ runs c (signalStep c p k) Q) := by
  unfold owing signalStep
  by_cases hp : p = c
  · subst hp
    rw [dif_neg (fun h => (elsewhere_iff _ _).mp h rfl)]
    unfold oweUnits; rw [due_own]
    iintro ⟨⟨#Hr, ⟨%W, HO⟩⟩, Htok, Hre, Hrow⟩ Hk
    iapply Hk
    isplitr []; swap; · iempintro
    isplitr; · iexact Hr
    iexists W; iexact HO
  · rw [dif_pos ((elsewhere_iff _ _).mpr (Ne.symm hp))]
    simp only [semSignalWord, Prog.lift, Prog.bind_op, Prog.bind_ret, Prog.pure_eq_ret]
    rw [away_ne hp]
    iintro ⟨⟨#Hr, ⟨%W, HO⟩⟩, Htok, Hre, Hrow⟩ Hk
    iapply (Rounds.wp_signal 𝒱₀ ER (rd X) (c : Thread nD τ) none (dst := ((p : Dev nD) : Thread nD τ)) (κ := κ (barCell p)) (r := 0)
      (d := c) (by rw [duties_bar]; exact Finset.mem_erase.mpr ⟨Ne.symm hp, Finset.mem_univ _⟩) ((amount_bar X p c).trans (by decide)) ()
      (O₀ := oweRows c places + oweUnits c (p :: l)) (oweRows c places + oweUnits c l)
      ((congrArg (oweRows c places + ·) (due_cons c _ p l hp)).trans (add_assoc _ _ _).symm)) $$ [HO Htok Hre Hrow]
    · isplitr; · iapply (recs_bar X κ p); iexact Hr
      isplitl [HO]; · iexact HO
      isplitl [Htok]; · iexact Htok
      isplitl [Hre Hrow]
      · rw [payload_bar]; unfold barPay
        isplitl [Hrow] <;> iassumption
      · iapply (recs_reached X κ p); iexact Hr
    iintro HO
    iapply Hk
    isplitr []; swap; · iempintro
    isplitr; · iexact Hr
    iexists W; iexact HO

/-- Row `c` of any buffer, written with row `c` of `sums`, holds `sums` there. -/
theorem row_write (c : Fin 32) (fd : cc0_scratch0.ty.Contents (Elt F)) :
    ∀ i ∈ (row c).view.set, (row c).view.write (Elt F) fd ((row c).view.read (Elt F) (sums X)) Finset.univ i = sums X i := by
  intro i hi
  rw [View.write_read_eq_piecewise]
  exact Finset.piecewise_eq_of_mem _ _ _ hi

/-- The copy to place `p` takes a share of the own row and the row lent by `p`, and leaves the credit for the wait on its leaving. -/
theorem send_turn {α : Type} (c : Dev nD) (Q : α → sProp 𝕄) (p : Fin 32) (l : List (Fin 32)) (k : TC F α) :
    iprop(owing X κ c (oweRows c (p :: l))
        ∗ (dutyTok ER (sendCell c p) 0 p ∗ reached ER (sendCell c p) 0 ∗ dutyTok ER (recvCell p c) 0 c ∗ away c p (barPay c p)
          ∗ rowPts c c (give p) (sums X)))
      ⊢ iprop(((owing X κ c (oweRows c l) ∗ (if p = c then rowPts c c (give p) (sums X) else cred (tallyAt (sendCell c p) () N)))
          -∗ runs c k Q) -∗ runs c (sendStep buf cc0_scratch1 cc0_scratch2 c p k) Q) := by
  unfold owing sendStep
  by_cases hp : p = c
  · subst hp
    rw [dif_neg (fun h => (elsewhere_iff _ _).mp h rfl), if_pos rfl]
    unfold oweRows; rw [due_own]
    iintro ⟨⟨#Hr, ⟨%W, HO⟩⟩, Htok, Hre, Htok', Hpay, Hrow⟩ Hk
    iapply Hk
    isplitl [HO]
    · isplitr; · iexact Hr
      iexists W; iexact HO
    iexact Hrow
  · rw [dif_pos ((elsewhere_iff _ _).mpr (Ne.symm hp)), if_neg hp, away_ne hp]
    simp only [Prog.lift, Prog.bind_op, Prog.bind_ret, Prog.pure_eq_ret, rowOwn_eq, semOwn_eq]
    unfold barPay rowPts
    iintro ⟨⟨#Hr, ⟨%W, HO⟩⟩, Htok, Hre, Htok', Hpay, Hrow⟩ Hk
    icases Hpay with ⟨⟨%fd, Hdst⟩, Hre'⟩
    iapply (Rounds.wp_send_pointsTo 𝒱₀ ER (rd X) (c : Thread nD τ) none (c' := ((p : Dev nD) : Thread nD τ)) (src := row c) (dst := row c)
      (q := give p) (fs := sums X) (fd := fd)
      (κ₁ := κ (sendCell c p)) (κ₂ := κ (recvCell p c)) (r₁ := 0) (r₂ := 0) (d₁ := p) (d₂ := c)
      (by rw [duties_send X c p hp]; exact Finset.mem_singleton_self _) (by rw [duties_recv X p c (Ne.symm hp)]; exact Finset.mem_singleton_self _)
      () () N rfl (amount_send X c p p) (amount_recv X p c c) (O₀ := oweRows c (p :: l)) (oweRows c l) (due_cons c _ p l hp) (W := W)
      (by rw [payload_send]; unfold sendPay rowPts; exact BI.Entails.refl _)
      (by rw [payload_recv]; unfold recvPay rowPts; exact Entails.of_eq (pointsTo_congr (row_write X c fd)))) $$ [HO Htok Hre Htok' Hre' Hdst Hrow]
    · isplitr; · iapply (recs_send X κ c p); iexact Hr
      isplitr; · iapply (recs_recv X κ p c); iexact Hr
      isplitl [Hrow]; · iexact Hrow
      isplitl [Hdst]; · iexact Hdst
      isplitl [HO]; · iexact HO
      isplitl [Htok]; · iexact Htok
      isplitl [Hre]; · iexact Hre
      isplitl [Htok'] <;> iassumption
    iintro ⟨Hc, HO⟩
    iapply Hk
    isplitl [HO]
    · isplitr; · iexact Hr
      iexists W; iexact HO
    iexact Hc

/-- The wait for place `p`'s row gives it, filled; its cell is closed. -/
theorem recv_turn {α : Type} (c : Dev nD) (Q : α → sProp 𝕄) (p : Fin 32) (_l : List (Fin 32)) (k : TC F α) :
    iprop(owing X κ c 0 ∗ (atPos ER (recvCell c p) 0 ∅ 0 ∗ away c p (cred (tallyAt (recvCell c p) () N))))
      ⊢ iprop(((owing X κ c 0 ∗ (semVal (recvCell c p) 0 ∗ away c p (rowPts c p fullShare (sums X)))) -∗ runs c k Q)
          -∗ runs c (recvStep buf cc0_scratch2 c p k) Q) := by
  unfold owing recvStep
  by_cases hp : p = c
  · subst hp
    rw [dif_neg (fun h => (elsewhere_iff _ _).mp h rfl), away_own, away_own]
    iintro ⟨⟨#Hr, ⟨%W, HO⟩⟩, Hat, Hc⟩ Hk
    imod (Rounds.cell_close ER (rd X) (Set.mem_univ (κ (recvCell p p))) (fun h => h) (R := 0) (fun r _ => duties_recv_own X p r)) $$ [Hat] with Hz
    · isplitr; · iapply (recs_recv X κ p p); iexact Hr
      iexact Hat
    iapply Hk
    isplitl [HO]
    · isplitr; · iexact Hr
      iexists W; iexact HO
    isplitl [Hz]; · iexact Hz
    iempintro
  · rw [dif_pos ((elsewhere_iff _ _).mpr (Ne.symm hp)), away_ne hp, away_ne hp]
    simp only [Prog.lift, Prog.bind_op, Prog.bind_ret, Prog.pure_eq_ret]
    iintro ⟨⟨#Hr, ⟨%W, HO⟩⟩, Hat, Hc⟩ Hk
    iapply (Rounds.wp_wait_rest_token 𝒱₀ ER (rd X) (c : Thread nD τ) none (κ := κ (recvCell c p))
      (wpE_waitDma2_eq 𝒱₀ (c : Thread nD τ) none Set.univ) (Set.mem_univ _) () (O := 0) (W := W) (R := 0) (m := 0) (T := ∅)
      (by rw [Nat.zero_add, expect_recv X c p hp])) $$ [Hc HO Hat]
    · isplitr; · iapply (recs_recv X κ c p); iexact Hr
      isplitl [Hc]; · iexact Hc
      isplitl [HO]; · iexact HO
      isplitr; · rw [MayWait_zero]; iempintro
      iexact Hat
    iintro ⟨HO, Hat, -, Hpay⟩
    ihave Hrow := (Entails.of_eq (rest_recv X c p hp)) $$ Hpay
    imod (Rounds.cell_close ER (rd X) (Set.mem_univ (κ (recvCell c p))) (fun h => h) (R := 0 + 1) (duties_later X (recvCell c p))) $$ [Hat] with Hz
    · isplitr; · iapply (recs_recv X κ c p); iexact Hr
      iexact Hat
    iapply Hk
    isplitl [HO]
    · isplitr; · iexact Hr
      iexists _; iexact HO
    isplitl [Hz]; · iexact Hz
    unfold recvPay; iexact Hrow

/-- The wait for the row sent to place `p` gives back the share of the own row; its cell is closed. -/
theorem done_turn {α : Type} (c : Dev nD) (Q : α → sProp 𝕄) (p : Fin 32) (_l : List (Fin 32)) (k : TC F α) :
    iprop(owing X κ c 0 ∗ (atPos ER (sendCell c p) 0 ∅ 0 ∗ (if p = c then rowPts c c (give p) (sums X) else cred (tallyAt (sendCell c p) () N))))
      ⊢ iprop(((owing X κ c 0 ∗ (semVal (sendCell c p) 0 ∗ rowPts c c (give p) (sums X))) -∗ runs c k Q)
          -∗ runs c (doneStep buf cc0_scratch1 c p k) Q) := by
  unfold owing doneStep
  by_cases hp : p = c
  · subst hp
    rw [dif_neg (fun h => (elsewhere_iff _ _).mp h rfl), if_pos rfl]
    iintro ⟨⟨#Hr, ⟨%W, HO⟩⟩, Hat, Hc⟩ Hk
    imod (Rounds.cell_close ER (rd X) (Set.mem_univ (κ (sendCell p p))) (fun h => h) (R := 0) (fun r _ => duties_send_own X p r)) $$ [Hat] with Hz
    · isplitr; · iapply (recs_send X κ p p); iexact Hr
      iexact Hat
    iapply Hk
    isplitl [HO]
    · isplitr; · iexact Hr
      iexists W; iexact HO
    isplitl [Hz]; · iexact Hz
    iexact Hc
  · rw [dif_pos ((elsewhere_iff _ _).mpr (Ne.symm hp)), if_neg hp]
    simp only [Prog.lift, Prog.bind_op, Prog.bind_ret, Prog.pure_eq_ret, rowOwn_eq]
    iintro ⟨⟨#Hr, ⟨%W, HO⟩⟩, Hat, Hc⟩ Hk
    iapply (Rounds.wp_wait_rest_token 𝒱₀ ER (rd X) (c : Thread nD τ) none (κ := κ (sendCell c p))
      (wpE_waitDma2_eq 𝒱₀ (c : Thread nD τ) none Set.univ) (Set.mem_univ _) () (O := 0) (W := W) (R := 0) (m := 0) (T := ∅)
      (by rw [Nat.zero_add, expect_send X c p hp])) $$ [Hc HO Hat]
    · isplitr; · iapply (recs_send X κ c p); iexact Hr
      isplitl [Hc]; · iexact Hc
      isplitl [HO]; · iexact HO
      isplitr; · rw [MayWait_zero]; iempintro
      iexact Hat
    iintro ⟨HO, Hat, -, Hpay⟩
    ihave Hrow := (Entails.of_eq (rest_send X c p hp)) $$ Hpay
    imod (Rounds.cell_close ER (rd X) (Set.mem_univ (κ (sendCell c p))) (fun h => h) (R := 0 + 1) (duties_later X (sendCell c p))) $$ [Hat] with Hz
    · isplitr; · iapply (recs_send X κ c p); iexact Hr
      iexact Hat
    iapply Hk
    isplitl [HO]
    · isplitr; · iexact Hr
      iexists _; iexact HO
    isplitl [Hz]; · iexact Hz
    unfold sendPay; iexact Hrow

/-! ## The loops -/

/-- The signals lend every other place its row of the device's buffer. -/
theorem signal_loop {α : Type} (c : Dev nD) (Q : α → sProp 𝕄) (k : TC F α) :
    iprop(owing X κ c (oweRows c places + oweUnits c places)
        ∗ (bigSep Finset.univ fun p : Fin 32 => dutyTok ER (barCell p) 0 c) ∗ (bigSep Finset.univ fun p : Fin 32 => reached ER (recvCell c p) 0)
        ∗ (bigSep Finset.univ fun p : Fin 32 => away c p iprop(∃ f, rowPts c p fullShare f)))
      ⊢ iprop((owing X κ c (oweRows c places) -∗ runs c k Q) -∗ runs c (over places (signalStep c) k) Q) := by
  have h := runs_loop c (signalStep c) Q (fun l => owing X κ c (oweRows c places + oweUnits c l)) _ _ (signal_turn X κ c Q) k
  simp only [bigSep_sep'] at h
  iintro H Hk
  iapply h $$ H
  iintro ⟨HO, -⟩
  iapply Hk
  rw [show oweUnits c [] = 0 from rfl, add_zero]
  iexact HO

/-- The copies take a share of the own row each, and the rows lent. -/
theorem send_loop {α : Type} (c : Dev nD) (Q : α → sProp 𝕄) (k : TC F α) :
    iprop(owing X κ c (oweRows c places)
        ∗ (bigSep Finset.univ fun p : Fin 32 => dutyTok ER (sendCell c p) 0 p) ∗ (bigSep Finset.univ fun p : Fin 32 => reached ER (sendCell c p) 0)
        ∗ (bigSep Finset.univ fun p : Fin 32 => dutyTok ER (recvCell p c) 0 c) ∗ (bigSep Finset.univ fun p : Fin 32 => away c p (barPay c p))
        ∗ (bigSep Finset.univ fun p : Fin 32 => rowPts c c (give p) (sums X)))
      ⊢ iprop(((owing X κ c 0
            ∗ bigSep Finset.univ fun p : Fin 32 => if p = c then rowPts c c (give p) (sums X) else cred (tallyAt (sendCell c p) () N))
          -∗ runs c k Q) -∗ runs c (over places (sendStep buf cc0_scratch1 cc0_scratch2 c) k) Q) := by
  have h := runs_loop c (sendStep buf cc0_scratch1 cc0_scratch2 c) Q (fun l => owing X κ c (oweRows c l)) _ _ (send_turn X κ c Q) k
  simp only [bigSep_sep'] at h
  exact h

/-- The waits for the other places' rows give them, filled. -/
theorem recv_loop {α : Type} (c : Dev nD) (Q : α → sProp 𝕄) (k : TC F α) :
    iprop(owing X κ c 0 ∗ (bigSep Finset.univ fun p : Fin 32 => atPos ER (recvCell c p) 0 ∅ 0)
        ∗ (bigSep Finset.univ fun p : Fin 32 => away c p (cred (tallyAt (recvCell c p) () N))))
      ⊢ iprop(((owing X κ c 0 ∗ (bigSep Finset.univ fun p : Fin 32 => semVal (recvCell c p) 0)
            ∗ (bigSep Finset.univ fun p : Fin 32 => away c p (rowPts c p fullShare (sums X))))
          -∗ runs c k Q) -∗ runs c (over places (recvStep buf cc0_scratch2 c) k) Q) := by
  have h := runs_loop c (recvStep buf cc0_scratch2 c) Q (fun _ => owing X κ c 0) _ _ (recv_turn X κ c Q) k
  simp only [bigSep_sep'] at h
  exact h

/-- The waits for the rows sent give back the shares of the own row. -/
theorem done_loop {α : Type} (c : Dev nD) (Q : α → sProp 𝕄) (k : TC F α) :
    iprop(owing X κ c 0 ∗ (bigSep Finset.univ fun p : Fin 32 => atPos ER (sendCell c p) 0 ∅ 0)
        ∗ (bigSep Finset.univ fun p : Fin 32 => if p = c then rowPts c c (give p) (sums X) else cred (tallyAt (sendCell c p) () N)))
      ⊢ iprop(((owing X κ c 0 ∗ (bigSep Finset.univ fun p : Fin 32 => semVal (sendCell c p) 0)
            ∗ (bigSep Finset.univ fun p : Fin 32 => rowPts c c (give p) (sums X)))
          -∗ runs c k Q) -∗ runs c (over places (doneStep buf cc0_scratch1 c) k) Q) := by
  have h := runs_loop c (doneStep buf cc0_scratch1 c) Q (fun _ => owing X κ c 0) _ _ (done_turn X κ c Q) k
  simp only [bigSep_sep'] at h
  exact h

end Cert.Proof
-- ==== Proof.Body.lean ====
/-
  One device's run of the kernel's body, from its buffers and its part of the exchange to the stored result.
-/
module

public import proofs.«01_k».proof.Proof.Loops

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S768x512 .f32) (G : Dev nD → FVec F S1x512 .f32)

/-! ## The communication buffer by rows, and the own row by shares -/

/-- The buffer is its 32 rows. -/
theorem rows_eq (c : Dev nD) (f : cc0_scratch0.ty.Contents (Elt F)) :
    (((c : Thread nD τ).loc cc0_scratch0) ↦{fullShare} f : sProp 𝕄) = bigSep Finset.univ fun p => rowPts c p fullShare f := by
  have hu : (Finset.univ : Finset (Idx ((c : Thread nD τ).loc cc0_scratch0))) = Finset.univ.biUnion fun p : Fin 32 => (row p).view.set := by
    ext i
    simp only [Finset.mem_univ, Finset.mem_biUnion, true_and, true_iff]
    exact ⟨(i : S32x6x128.Idx) 0, (mem_row _ i).mpr rfl⟩
  have h := pointsTo_biUnion (nD := nD) (τ := τ) (sig := sig) (Ix := Unit) (Val := Elt F) (Name := ℕ) (U := UU) (Lvl := ℕ)
    (ℓ := (c : Thread nD τ).loc cc0_scratch0) (q := fullShare) (f := f) (Finset.univ : Finset (Fin 32)) (fun p => (row p).view.set)
    (fun p _ p' _ hne => Finset.disjoint_left.mpr fun i hi hi' => hne (Fin.ext (((mem_row p i).mp hi).symm.trans ((mem_row p' i).mp hi'))))
  rw [← hu] at h
  exact h

/-- A row at the share left over for the places from `k` on is a share for each of the next `n` and what is then left. -/
theorem shares_eq (c : Dev nD) (p : Fin 32) (f : cc0_scratch0.ty.Contents (Elt F)) : ∀ n k : ℕ,
    (rowPts c p (left k) f : sProp 𝕄) = iprop(bigSepL (List.range' k n) (fun i => rowPts c p (left i).left f) ∗ rowPts c p (left (k + n)) f)
  | 0, k => by
    rw [List.range'_zero, show bigSepL [] (fun i => (rowPts c p (left i).left f : sProp 𝕄)) = iprop(emp) from rfl, Nat.add_zero]
    exact (equiv_iff.mp emp_sep).symm
  | n + 1, k => by
    have h : (rowPts c p (left k) f : sProp 𝕄) = iprop(rowPts c p (left k).left f ∗ rowPts c p (left (k + 1)) f) := by
      unfold rowPts
      have hq := pointsTo_share (nD := nD) (τ := τ) (sig := sig) (Ix := Unit) (Val := Elt F) (Name := ℕ) (U := UU) (Lvl := ℕ)
        (ℓ := (row p).view.loc (c : Thread nD τ)) (I := (row p).view.set) (f := f) (PosShare.mem_left_op_right (left k))
      exact equiv_iff.mp ⟨hq.1, hq.2⟩
    rw [h, shares_eq c p f n (k + 1), List.range'_succ, bigSepL_cons', show k + 1 + n = k + (n + 1) by omega]
    exact sep_assoc'.antisymm sep_assoc

/-- A row held in full is a share for each place's copy and a rest. -/
theorem gives_eq (c : Dev nD) (p : Fin 32) (f : cc0_scratch0.ty.Contents (Elt F)) :
    (rowPts c p fullShare f : sProp 𝕄) = iprop(bigSepL places (fun p' => rowPts c p (give p') f) ∗ rowPts c p (left 32) f) := by
  have h := shares_eq c p f 32 0
  have hl : List.range' 0 32 = places.map Fin.val := by decide +kernel
  rw [hl, bigSepL_map, Nat.zero_add] at h
  exact h

/-- The store of the own partial sums leaves `sums` in the own row. -/
theorem store_own (c : Dev nD) (h) (f : cc0_scratch0.ty.Contents (Elt F)) :
    ∀ i ∈ (row c).view.set, (buf.access (Rect.unit (s := S32x6x128) (k0_off1 c) S1x6x128.size h) : View sig .tc _ _ _).write (Elt F) f (k0_pay3 (X c)) Finset.univ i
      = sums X i := by
  have key : ∀ (o : Fin 3 → Nat) (_ : o = ![c.val, 0, 0]) (h : ∀ a, o a + S1x6x128.size a ≤ S32x6x128.size a), ∀ i ∈ (row c).view.set,
      (buf.access (Rect.unit (s := S32x6x128) o S1x6x128.size h) : View sig .tc _ _ _).write (Elt F) f (k0_pay3 (X c)) Finset.univ i = sums X i := by
    rintro _ rfl h i hi
    have hs : (row c).view.set = (buf.access (Rect.unit (s := S32x6x128) ![c.val, 0, 0] S1x6x128.size h) : View sig .tc _ _ _).set :=
      View.set_reshape _ _
    rw [hs] at hi
    obtain ⟨y, -, rfl⟩ := Finset.mem_map.mp hi
    rw [View.write_emb_of_mem _ _ (Finset.mem_univ y), cast_eq]
    have e0 : (((Rect.unit (s := S32x6x128) ![c.val, 0, 0] S1x6x128.size h).emb y) 0 : Fin 32) = c := by
      apply Fin.ext
      have h0 := (y 0).isLt
      simp [Rect.emb, Rect.unit] at h0 ⊢
      omega
    show k0_pay3 (X c) y = sums X ((Rect.unit (s := S32x6x128) ![c.val, 0, 0] S1x6x128.size h).emb y)
    unfold sums
    rw [e0]
    congr 1
    funext a
    have h0 := (y 0).isLt
    fin_cases a <;> apply Fin.ext <;> simp [Rect.emb, Rect.unit] at h0 ⊢ <;> omega
  exact key _ (k0_off1_eq c) h

/-- The own row's accesses lie in the own row. -/
theorem own_subset (c : Dev nD) (h) : (buf.access (Rect.unit (s := S32x6x128) (k0_off1 c) S1x6x128.size h) : View sig .tc _ _ _).set ⊆ (row c).view.set := by
  have key : ∀ (o : Fin 3 → Nat) (_ : o = ![c.val, 0, 0]) (h : ∀ a, o a + S1x6x128.size a ≤ S32x6x128.size a),
      (buf.access (Rect.unit (s := S32x6x128) o S1x6x128.size h) : View sig .tc _ _ _).set ⊆ (row c).view.set := by
    rintro _ rfl h
    have hs : (row c).view.set = (buf.access (Rect.unit (s := S32x6x128) ![c.val, 0, 0] S1x6x128.size h) : View sig .tc _ _ _).set :=
      View.set_reshape _ _
    rw [hs]
  exact key _ (k0_off1_eq c) h

/-! ## The body -/

/-- The staging buffer of the block of `x`. -/
abbrev xM : Memref sig .tc .vmem S768x512 .f32 := Memref.whole cc0_stg0_0
/-- The staging buffer of the weights. -/
abbrev gM : Memref sig .tc .vmem S1x512 .f32 := Memref.whole cc0_stg1_0
/-- The staging buffer of the result. -/
abbrev oM : Memref sig .tc .vmem S768x512 .f32 := Memref.whole cc0_stg2_0

/-- The offsets written out for a whole array of two axes are zero everywhere. -/
theorem zero2 : (![0, 0] : Fin 2 → Nat) = fun _ => 0 := funext fun a => by fin_cases a <;> rfl
/-- The same for three axes. -/
theorem zero3 : (![0, 0, 0] : Fin 3 → Nat) = fun _ => 0 := funext fun a => by fin_cases a <;> rfl

/-- A load of the whole of `x`'s block reads what the buffer holds; -/
theorem read_x (f : cc0_stg0_0.ty.Contents (Elt F)) :
    xM.view.readAt (Elt F) (Rect.unit (s := S768x512) ![0, 0] S768x512.size inb_S768x512_S768x512_0_0).toLoadRect f = f :=
  Memref.readAt_unit_zero (Elt F) cc0_stg0_0 zero2 _ f
/-- so does the load of the weights -/
theorem read_g (f : cc0_stg1_0.ty.Contents (Elt F)) :
    gM.view.readAt (Elt F) (Rect.unit (s := S1x512) ![0, 0] S1x512.size inb_S1x512_S1x512_0_0).toLoadRect f = f :=
  Memref.readAt_unit_zero (Elt F) cc0_stg1_0 zero2 _ f
/-- and the load of the whole buffer of partial sums. -/
theorem read_buf (f : cc0_scratch0.ty.Contents (Elt F)) :
    buf.view.readAt (Elt F) (Rect.unit (s := S32x6x128) ![0, 0, 0] S32x6x128.size inb_S32x6x128_S32x6x128_0_0_0).toLoadRect f = f :=
  Memref.readAt_unit_zero (Elt F) cc0_scratch0 zero3 _ f
/-- The store of the whole result leaves the value stored. -/
theorem write_o (f w : cc0_stg2_0.ty.Contents (Elt F)) :
    (oM.access (Rect.unit (s := S768x512) ![0, 0] S768x512.size inb_S768x512_S768x512_0_0) : View sig .tc _ _ _).write (Elt F) f w Finset.univ = w :=
  Memref.write_access_unit_zero_univ (Elt F) cc0_stg2_0 zero2 _ f w

/-- The rows lent may be taken at whatever they hold. -/
theorem lend_rows (c : Dev nD) (f : cc0_scratch0.ty.Contents (Elt F)) :
    (bigSep Finset.univ fun p : Fin 32 => away c p (rowPts c p fullShare f))
      ⊢ (bigSep Finset.univ fun p : Fin 32 => away c p iprop(∃ f, rowPts c p fullShare f) : sProp 𝕄) :=
  bigSep_mono fun p _ => by
    by_cases h : p = c
    · subst h; rw [away_own, away_own]; exact BI.Entails.refl (M := 𝕄) _
    · rw [away_ne h, away_ne h]
      show rowPts c p fullShare f ⊢ (iprop(∃ f, rowPts c p fullShare f) : sProp 𝕄)
      iintro H; iexists f; iexact H

/-- What device `c` stores. -/
def result (c : Dev nD) : FVec F S768x512 .f32 := k0_pay1 (k0_pay4 (k0_pay2 (X c)) (G c)) (sums X)

/-- What the launch deals device `c`: its barrier cell at its round, the tokens of the payments it is to make, the credit
    of the payments it is to receive. -/
def dealt (κ : GSem nD τ sig → ℕ) (c : Dev nD) : sProp 𝕄 :=
  iprop(recs X κ ∗ levAts L lv ∗ atPos ER (barCell c) 0 ∅ 0 ∗ cred (tallyAt (barCell c) () 31)
    ∗ (bigSep Finset.univ fun p : Fin 32 => dutyTok ER (barCell p) 0 c)
    ∗ (bigSep Finset.univ fun p : Fin 32 => dutyTok ER (sendCell c p) 0 p)
    ∗ (bigSep Finset.univ fun p : Fin 32 => dutyTok ER (recvCell p c) 0 c)
    ∗ (bigSep Finset.univ fun p : Fin 32 => away c p (cred (tallyAt (recvCell c p) () N))))

/-- Its copy cells, opened. -/
def opened (c : Dev nD) : sProp 𝕄 :=
  iprop((bigSep Finset.univ fun p : Fin 32 => iprop(atPos ER (sendCell c p) 0 ∅ 0 ∗ reached ER (sendCell c p) 0))
    ∗ (bigSep Finset.univ fun p : Fin 32 => iprop(atPos ER (recvCell c p) 0 ∅ 0 ∗ reached ER (recvCell c p) 0)))

/-- Its copy cells, closed again. -/
def closed (c : Dev nD) : sProp 𝕄 :=
  iprop((bigSep Finset.univ fun p : Fin 32 => semVal (sendCell c p) 0) ∗ (bigSep Finset.univ fun p : Fin 32 => semVal (recvCell c p) 0))

/-- What device `c`'s body starts from, -/
def bodyPre (κ : GSem nD τ sig → ℕ) (c : Dev nD) : sProp 𝕄 :=
  iprop(dealt X κ c ∗ opened c ∗ (∃ f, (c : Thread nD τ).loc cc0_scratch0 ↦{fullShare} f) ∗ (∃ W, owes (c : Thread nD τ) (owe c) W)
    ∗ ((c : Thread nD τ).loc cc0_stg0_0 ↦{fullShare} X c) ∗ ((c : Thread nD τ).loc cc0_stg1_0 ↦{fullShare} G c)
    ∗ (∃ f, (c : Thread nD τ).loc cc0_stg2_0 ↦{fullShare} f))
/-- and what it ends with. -/
def bodyPost (c : Dev nD) : sProp 𝕄 :=
  iprop(semVal (barCell c) 0 ∗ closed c ∗ (∃ f, (c : Thread nD τ).loc cc0_scratch0 ↦{fullShare} f) ∗ (∃ W, owes (c : Thread nD τ) 0 W)
    ∗ ((c : Thread nD τ).loc cc0_stg0_0 ↦{fullShare} X c) ∗ ((c : Thread nD τ).loc cc0_stg1_0 ↦{fullShare} G c)
    ∗ ((c : Thread nD τ).loc cc0_stg2_0 ↦{fullShare} result X G c))

/-! ## The accesses between the loops -/

/-- The device's place, asked for. -/
theorem place_runs {α : Type} (c : Dev nD) (k : Dev nD → TC F α) (Q : α → sProp 𝕄) :
    runs c (k c) Q ⊢ runs c (Prog.lift .deviceId >>= k) Q := by
  show _ ⊢ runs c (Prog.op .deviceId k) Q
  rw [runs, runs, wp_deviceId]

/-- The load of the block of `x`. -/
theorem x_runs {α : Type} (c : Dev nD) (k : (S768x512.Idx → Elt F .f32) → TC F α) (Q : α → sProp 𝕄) (v : FVec F S768x512 .f32) :
    (((c : Thread nD τ).loc cc0_stg0_0 ↦{fullShare} v) : sProp 𝕄)
      ⊢ iprop((((c : Thread nD τ).loc cc0_stg0_0 ↦{fullShare} v) -∗ runs c (k v) Q) -∗ runs c (do
        let v ← Prog.lift (.load xM (Rect.unit (s := S768x512) ![0, 0] S768x512.size inb_S768x512_S768x512_0_0).toLoadRect (View.loadsAt_vmem h_S768x512))
        k v) Q) := by
  simp only [Prog.lift, Prog.bind_op, Prog.bind_ret]
  iintro H Hk
  iapply (wp_load 𝒱₀ (c : Thread nD τ) none Set.univ (m := xM)
    (r := (Rect.unit (s := S768x512) ![0, 0] S768x512.size inb_S768x512_S768x512_0_0).toLoadRect) (Finset.subset_univ _)) $$ H; iintro H
  rw [read_x]
  iapply Hk
  iexact H

/-- The load of the weights. -/
theorem g_runs {α : Type} (c : Dev nD) (k : (S1x512.Idx → Elt F .f32) → TC F α) (Q : α → sProp 𝕄) (v : FVec F S1x512 .f32) :
    (((c : Thread nD τ).loc cc0_stg1_0 ↦{fullShare} v) : sProp 𝕄)
      ⊢ iprop((((c : Thread nD τ).loc cc0_stg1_0 ↦{fullShare} v) -∗ runs c (k v) Q) -∗ runs c (do
        let v ← Prog.lift (.load gM (Rect.unit (s := S1x512) ![0, 0] S1x512.size inb_S1x512_S1x512_0_0).toLoadRect (View.loadsAt_vmem h_S1x512))
        k v) Q) := by
  simp only [Prog.lift, Prog.bind_op, Prog.bind_ret]
  iintro H Hk
  iapply (wp_load 𝒱₀ (c : Thread nD τ) none Set.univ (m := gM)
    (r := (Rect.unit (s := S1x512) ![0, 0] S1x512.size inb_S1x512_S1x512_0_0).toLoadRect) (Finset.subset_univ _)) $$ H; iintro H
  rw [read_g]
  iapply Hk
  iexact H

/-- The own partial sums, stored in the own row. -/
theorem own_runs {α : Type} (c : Dev nD) (k : TC F α) (Q : α → sProp 𝕄) (f : cc0_scratch0.ty.Contents (Elt F)) :
    (rowPts c c fullShare f : sProp 𝕄) ⊢ iprop((rowPts c c fullShare (sums X) -∗ runs c k Q) -∗ runs c (do
      let _ ← Prog.lift (.load buf (Rect.unit (s := S32x6x128) (k0_off1 c) S1x6x128.size (k0_off1_inb c)).toLoadRect (View.loadsAt_vmem h_S1x6x128))
      Prog.lift (.store buf (Rect.unit (s := S32x6x128) (k0_off1 c) S1x6x128.size (k0_off1_inb c)) (k0_pay3 (X c)) Finset.univ
        (View.stores_vmem_bits_univ h_S1x6x128 rfl) (.inl rfl))
      k) Q) := by
  have e : (rowPts c c fullShare (sums X) : sProp 𝕄) = ((c : Thread nD τ).loc cc0_scratch0 ↦[(row c).view.set]{fullShare}
      ((buf.access (Rect.unit (s := S32x6x128) (k0_off1 c) S1x6x128.size (k0_off1_inb c)) : View sig .tc _ _ _).write (Elt F) f (k0_pay3 (X c)) Finset.univ)) :=
    pointsTo_congr fun i hi => (store_own X c (k0_off1_inb c) f i hi).symm
  rw [e]
  simp only [Prog.lift, Prog.bind_op, Prog.bind_ret]
  show ((c : Thread nD τ).loc cc0_scratch0 ↦[(row c).view.set]{fullShare} f : sProp 𝕄) ⊢ _
  iintro H Hk
  iapply (wp_load_rect 𝒱₀ (c : Thread nD τ) none Set.univ (m := buf)
    (r := Rect.unit (s := S32x6x128) (k0_off1 c) S1x6x128.size (k0_off1_inb c)) (own_subset c (k0_off1_inb c))) $$ H; iintro H
  iapply (wp_store 𝒱₀ (c : Thread nD τ) none Set.univ (m := buf) (Mk := Finset.univ)
    (r := Rect.unit (s := S32x6x128) (k0_off1 c) S1x6x128.size (k0_off1_inb c)) (own_subset c (k0_off1_inb c))) $$ H; iintro H
  iapply Hk
  iexact H

/-- The wait for the other places' signals gives their buffers' rows. -/
theorem bar_runs {α : Type} (κ : GSem nD τ sig → ℕ) (c : Dev nD) (k : TC F α) (Q : α → sProp 𝕄) :
    iprop(owing X κ c (oweRows c places) ∗ levAts L lv ∗ atPos ER (barCell c) 0 ∅ 0 ∗ cred (tallyAt (barCell c) () 31))
      ⊢ iprop(((owing X κ c (oweRows c places) ∗ semVal (barCell c) 0 ∗ bigSep Finset.univ fun p : Fin 32 => away c p (barPay c p))
          -∗ runs c k Q) -∗ runs c (do semWaitWord barS.sem 31#32; k) Q) := by
  unfold owing
  simp only [semWaitWord, Prog.lift, Prog.bind_op, Prog.bind_ret]
  iintro ⟨⟨#Hr, ⟨%W, HO⟩⟩, #Hlev, Hat, Hc⟩ Hk
  iapply (Rounds.wp_wait_rest_token 𝒱₀ ER (rd X) (c : Thread nD τ) none (κ := κ (barCell c))
    (wpE_semWait_eq 𝒱₀ (c : Thread nD τ) none Set.univ) (Set.mem_univ _) () (O := oweRows c places) (W := W) (R := 0) (m := 0) (T := ∅)
    (by rw [expect_bar]; decide)) $$ [Hc HO Hat]
  · isplitr; · iapply (recs_bar X κ c); iexact Hr
    isplitl [Hc]; · iexact Hc
    isplitl [HO]; · iexact HO
    isplitr; · iapply (mayWait_bar c); iexact Hlev
    iexact Hat
  iintro ⟨HO, Hat, -, Hpay⟩
  ihave Hpay := (Entails.of_eq (rest_bar X c)) $$ Hpay
  ihave Hpay := (bigSep_away c (barPay c)) $$ Hpay
  imod (Rounds.cell_close ER (rd X) (Set.mem_univ (κ (barCell c))) (fun h => h) (R := 0 + 1) (duties_later X (barCell c))) $$ [Hat] with Hz
  · isplitr; · iapply (recs_bar X κ c); iexact Hr
    iexact Hat
  iapply Hk
  isplitl [HO]
  · isplitr; · iexact Hr
    iexists _; iexact HO
  isplitl [Hz]; · iexact Hz
  iexact Hpay

/-- The end of the body: the buffer is read and the result stored. -/
theorem finish_runs (c : Dev nD) (Q : PUnit → sProp 𝕄) (f : cc0_scratch0.ty.Contents (Elt F)) (v : FVec F S768x512 .f32) :
    (iprop(((c : Thread nD τ).loc cc0_scratch0 ↦{fullShare} f) ∗ ∃ w, (c : Thread nD τ).loc cc0_stg2_0 ↦{fullShare} w) : sProp 𝕄)
      ⊢ iprop(((((c : Thread nD τ).loc cc0_scratch0 ↦{fullShare} f) ∗ ((c : Thread nD τ).loc cc0_stg2_0 ↦{fullShare} k0_pay1 v f)) -∗ Q ⟨⟩)
          -∗ runs c (finish oM buf v) Q) := by
  unfold finish
  simp only [Prog.lift, Prog.bind_op, Prog.bind_ret, Prog.pure_eq_ret]
  iintro ⟨Hb, ⟨%w, Ho⟩⟩ Hk
  iapply (wp_load 𝒱₀ (c : Thread nD τ) none Set.univ (m := buf)
    (r := (Rect.unit (s := S32x6x128) ![0, 0, 0] S32x6x128.size inb_S32x6x128_S32x6x128_0_0_0).toLoadRect) (Finset.subset_univ _)) $$ Hb; iintro Hb
  iapply (wp_load 𝒱₀ (c : Thread nD τ) none Set.univ (m := oM)
    (r := (Rect.unit (s := S768x512) ![0, 0] S768x512.size inb_S768x512_S768x512_0_0).toLoadRect) (Finset.subset_univ _)) $$ Ho; iintro Ho
  iapply (wp_store 𝒱₀ (c : Thread nD τ) none Set.univ (m := oM) (Mk := Finset.univ)
    (r := Rect.unit (s := S768x512) ![0, 0] S768x512.size inb_S768x512_S768x512_0_0) (Finset.subset_univ _)) $$ Ho; iintro Ho
  rw [read_buf, write_o, wp_ret]
  imodintro
  iapply Hk
  isplitl [Hb]; · iexact Hb
  iexact Ho

end Cert.Proof
-- ==== Proof.Run.lean ====
/-
  One device's run of the kernel's body, from its part of the exchange and its buffers to the stored result.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S768x512 .f32) (G : Dev nD → FVec F S1x512 .f32)

/-- The own row, split into the shares the copies take, and joined again. -/
theorem own_shares (c : Dev nD) (f : cc0_scratch0.ty.Contents (Elt F)) :
    (rowPts c c fullShare f : sProp 𝕄) = iprop((bigSep Finset.univ fun p : Fin 32 => rowPts c c (give p) f) ∗ rowPts c c (left 32) f) := by
  rw [gives_eq, bigSep_places]

/-- The body runs from `bodyPre` to `bodyPost`. -/
theorem body_runs (κ : GSem nD τ sig → ℕ) (c : Dev nD) (Q : PUnit → sProp 𝕄) :
    iprop(bodyPre X G κ c ∗ (bodyPost X G c -∗ Q ⟨⟩))
      ⊢ runs c (cc0_body xM (Memref.isWhole_whole _) gM (Memref.isWhole_whole _) oM (Memref.isWhole_whole _) buf (Memref.isWhole_whole _)
          cc0_scratch1 cc0_scratch2) Q := by
  rw [body_eq]
  unfold bodyPre bodyPost dealt opened closed
  simp only [rows_eq, bigSep_sep']
  iintro ⟨⟨⟨#Hr, #Hlev, HatB, HcB, HtB, HtS, HtV, HcV⟩, ⟨⟨HatS, HrS⟩, HatV, HrV⟩, ⟨%f0, Hbuf⟩, ⟨%W, HO⟩, Hx, Hg, Ho⟩, Hk⟩
  iapply (place_runs c _ Q)
  -- the signals: every other row of the buffer is lent
  ihave Hrows := (bigSep_own c fun p => rowPts c p fullShare f0) $$ Hbuf
  icases Hrows with ⟨Hown, Hrows⟩
  iapply (signal_loop X κ c Q _) $$ [HO HtB HrV Hrows]
  · isplitl [HO]
    · unfold owing
      isplitr; · iexact Hr
      iexists W; iexact HO
    isplitl [HtB]; · iexact HtB
    isplitl [HrV]; · iexact HrV
    iapply (lend_rows c f0) $$ Hrows
  iintro HO
  -- the own partial sums
  iapply (x_runs c _ Q (X c)) $$ Hx; iintro Hx
  iapply (own_runs X c _ Q f0) $$ Hown; iintro Hown
  -- the other places' rows are lent in turn
  iapply (bar_runs X κ c _ Q) $$ [HO HatB HcB]
  · isplitl [HO]; · iexact HO
    isplitr; · iexact Hlev
    isplitl [HatB]; · iexact HatB
    iexact HcB
  iintro ⟨HO, HzB, Hbars⟩
  -- the copies
  ihave Hown := (Entails.of_eq (own_shares c (sums X))) $$ Hown
  icases Hown with ⟨Hgives, Hleft⟩
  iapply (send_loop X κ c Q _) $$ [HO HtS HrS HtV Hbars Hgives]
  · isplitl [HO]; · iexact HO
    isplitl [HtS]; · iexact HtS
    isplitl [HrS]; · iexact HrS
    isplitl [HtV]; · iexact HtV
    isplitl [Hbars]; · iexact Hbars
    iexact Hgives
  iintro ⟨HO, Hsent⟩
  iapply (g_runs c _ Q (G c)) $$ Hg; iintro Hg
  -- the waits
  iapply (recv_loop X κ c Q _) $$ [HO HatV HcV]
  · isplitl [HO]; · iexact HO
    isplitl [HatV]; · iexact HatV
    iexact HcV
  iintro ⟨HO, HzV, Hrows⟩
  iapply (done_loop X κ c Q _) $$ [HO HatS Hsent]
  · isplitl [HO]; · iexact HO
    isplitl [HatS]; · iexact HatS
    iexact Hsent
  iintro ⟨HO, HzS, Hgives⟩
  -- the buffer is whole again
  ihave Hown := (Entails.of_eq (own_shares c (sums X)).symm) $$ [Hgives Hleft]
  · isplitl [Hgives]; · iexact Hgives
    iexact Hleft
  ihave Hbuf := (bigSep_own_back c fun p => rowPts c p fullShare (sums X)) $$ [Hown Hrows]
  · isplitl [Hown]; · iexact Hown
    iexact Hrows
  ihave Hbuf := (Entails.of_eq (rows_eq c (sums X)).symm) $$ Hbuf
  iapply (finish_runs c Q (sums X) _) $$ [Hbuf Ho]
  · isplitl [Hbuf]; · iexact Hbuf
    iexact Ho
  iintro ⟨Hbuf, Ho⟩
  ihave Hbuf := (Entails.of_eq (rows_eq c (sums X))) $$ Hbuf
  unfold owing
  icases HO with ⟨-, HO⟩
  iapply Hk
  isplitl [HzB]; · iexact HzB
  isplitl [HzS HzV]
  · isplitl [HzS]; · iexact HzS
    iexact HzV
  isplitl [Hbuf]; · iexists (sums X); iexact Hbuf
  isplitl [HO]; · iexact HO
  isplitl [Hx]; · iexact Hx
  isplitl [Hg]; · iexact Hg
  iexact Ho

end Cert.Proof
-- ==== Proof.Region.lean ====
/-
  The kernel's call as a segment of the program: what it is entered with, what it leaves.
-/
module

public import proofs.«01_k».proof.Proof.Run
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {F : FTy → Type} [FloatOps F]

local notation "𝕄" => MT nD τ sig Unit (Elt F) ℕ UU ℕ

variable (m : (ℓ : Loc nD τ sig) → Buf (Elt F) ℓ)

/-! ## Contents -/

/-- The buffers at launch. -/
abbrev V₀ (c : Dev nD) : Valuation τ sig (Elt F) := fun b => m ((c : Dev nD), b)
/-- The buffers after the reshape of the weights. -/
abbrev V₁ (c : Dev nD) : Valuation τ sig (Elt F) := StableHlo.after hostOps0 (V₀ m c)

/-- The staged block of `x`. -/
def xIn (c : Dev nD) : FVec F S768x512 .f32 := (win0_0.blk t0_0).view.read (Elt F) (V₁ m c (Proc.devRef .tc main_arg0))
/-- The staged block of the weights. -/
def gIn (c : Dev nD) : FVec F S1x512 .f32 := (win0_1.blk t0_0).view.read (Elt F) (V₁ m c (Proc.devRef .tc main_v1))

/-- The buffers after the kernel. -/
abbrev V₂ (c : Dev nD) : Valuation τ sig (Elt F) := Function.update (V₁ m c) (Proc.devRef .tc main_v2) (result (xIn m) (gIn m) c)

/-! ## The proof data -/

/-- The communication buffer, at any contents. -/
abbrev scr (c : Dev nD) : sProp 𝕄 := iprop(∃ f, (c : Thread nD τ).loc cc0_scratch0 ↦{fullShare} f)

/-- Before the body and -/
def start (c : Dev nD) : sProp 𝕄 := iprop((∃ κ, dealt (xIn m) κ c) ∗ opened c ∗ scr c ∗ ∃ r, prngReg c r)
/-- after it. -/
def done (c : Dev nD) : sProp 𝕄 := iprop(semVal (barCell c) 0 ∗ closed c ∗ scr c ∗ ∃ r, prngReg c r)

/-- The call's proof data: what each window holds before and after the body, what the body starts from and ends with, and what is owed. -/
def dats (_ : Fin 1) (c : Dev nD) : Dat τ (Elt F) Unit ℕ UU ℕ cfg0 c where
  A w := V₁ m c (Proc.devRef .tc (Pipeline.arrRef spec0 w))
  after w _ := match w with
    | ⟨0, _⟩ => xIn m c
    | ⟨1, _⟩ => gIn m c
    | ⟨2, _⟩ => result (xIn m) (gIn m) c
  Φ t := match t with
    | ⟨0, _⟩ => start m c
    | ⟨_ + 1, _⟩ => done c
  q _ := fullShare
  owed t := match t with
    | ⟨0, _⟩ => owe c
    | ⟨_ + 1, _⟩ => 0

/-- To own a whole buffer at given contents is to hold it there. -/
theorem owns_whole_eq (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- A staging buffer at given contents. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

/-- The body finds `x`'s block staged, -/
theorem before_x (c : Dev nD) (d) : (dats m 0 c).before 0 t0_0 d = xIn m c := by
  unfold Dat.before; rw [if_pos (fetch0_0 t0_0)]; rfl
/-- and the weights'. -/
theorem before_g (c : Dev nD) (d) : (dats m 0 c).before 1 t0_0 d = gIn m c := by
  unfold Dat.before; rw [if_pos (fetch0_1 t0_0)]; rfl

/-- Before the body the device owes what it owes at launch; -/
theorem owesAt_elim (c : Dev nD) : ((dats m 0 c).owesAt () (t0_0 : Fin cfg0.N).castSucc : sProp 𝕄) ⊢ iprop(∃ W, owes (c : Thread nD τ) (owe c) W) := by
  unfold Dat.owesAt Pipeline.owesWithin
  rw [show (dats m 0 c).owed (t0_0 : Fin cfg0.N).castSucc = owe c from rfl]
  iintro ⟨%W, -, HO⟩; iexists W; iexact HO
/-- after it, nothing. -/
theorem owesAt_intro (c : Dev nD) : iprop(∃ W, owes (c : Thread nD τ) 0 W) ⊢ ((dats m 0 c).owesAt () (t0_0 : Fin cfg0.N).succ : sProp 𝕄) := by
  unfold Dat.owesAt Pipeline.owesWithin
  rw [show (dats m 0 c).owed (t0_0 : Fin cfg0.N).succ = 0 from rfl]
  iintro ⟨%W, HO⟩; iexists W
  isplitr; · ipureintro; exact fun _ _ => Or.inl trivial
  iexact HO

/-- The body's obligation at the one point. -/
theorem body_obligation (c : Dev nD) : BodyObligation (dats m 0 c) (defs₀ (F := F)) 𝒱₀ () Set.univ := fun t => by
  rw [fin_N0 t, bigSep_W0, bigSep_W0]
  simp only [owns_whole_eq]
  show iprop(start m c ∗ (dats m 0 c).owesAt () (t0_0 : Fin cfg0.N).castSucc
      ∗ (∃ d, stg c cc0_stg0_0 ((dats m 0 c).before 0 t0_0 d)) ∗ (∃ d, stg c cc0_stg1_0 ((dats m 0 c).before 1 t0_0 d))
      ∗ (∃ d, stg c cc0_stg2_0 ((dats m 0 c).before 2 t0_0 d)))
    ⊢ runs c (cc0_body xM (Memref.isWhole_whole _) gM (Memref.isWhole_whole _) oM (Memref.isWhole_whole _) buf (Memref.isWhole_whole _)
          cc0_scratch1 cc0_scratch2) (fun _ => iprop(done c ∗ (dats m 0 c).owesAt () (t0_0 : Fin cfg0.N).succ
      ∗ stg c cc0_stg0_0 (xIn m c) ∗ stg c cc0_stg1_0 (gIn m c) ∗ stg c cc0_stg2_0 (result (xIn m) (gIn m) c)))
  unfold start done
  iintro ⟨⟨⟨%κ, Hd⟩, Hop, Hs, Hp⟩, HO, ⟨%d0, %g0, %h0, Hx⟩, ⟨%d1, %g1, %h1, Hg⟩, ⟨%d2, %g2, %h2, Ho⟩⟩
  obtain rfl : g0 = xIn m c := h0.trans (before_x m c d0)
  obtain rfl : g1 = gIn m c := h1.trans (before_g m c d1)
  iapply (body_runs (xIn m) (gIn m) κ c _)
  unfold bodyPre bodyPost
  isplitr [Hp]
  · isplitl [Hd]; · iexact Hd
    isplitl [Hop]; · iexact Hop
    isplitl [Hs]; · iexact Hs
    isplitl [HO]; · iapply (owesAt_elim m c) $$ HO
    isplitl [Hx]; · iexact Hx
    isplitl [Hg]; · iexact Hg
    iexists g2; iexact Ho
  iintro ⟨Hb, Hcl, Hs, HO, Hx, Hg, Ho⟩
  isplitl [Hb Hcl Hs Hp]
  · isplitl [Hb]; · iexact Hb
    isplitl [Hcl]; · iexact Hcl
    isplitl [Hs]; · iexact Hs
    iexact Hp
  isplitl [HO]; · iapply (owesAt_intro m c) $$ HO
  isplitl [Hx]
  · iexists _; isplitr; · (ipureintro; rfl)
    iexact Hx
  isplitl [Hg]
  · iexists _; isplitr; · (ipureintro; rfl)
    iexact Hg
  iexists _; isplitr; · (ipureintro; rfl)
  iexact Ho

/-! ## The segment -/

/-- The call is one the pipeline admits. -/
abbrev adm : (p : Fin 1) → (pcfgs (F := F) p).Adm := fun p => (cfgs p).toPCfg_adm

/-- What a device keeps from the launch for the kernel: its part of the exchange and the right to open its copy cells. -/
def kept (c : Dev nD) : sProp 𝕄 :=
  iprop((∃ κ, dealt (xIn m) κ c) ∗ bigSep Finset.univ fun k : Bool × Fin 32 => openTok ER ((c : Thread nD τ), copyS k))

/-- The call's own counters are the copy cells, closed. -/
theorem ownSems_eq (c : Dev nD) : (Pipeline.ownSems0 copyS c : sProp 𝕄) = closed c := by
  unfold Pipeline.ownSems0 closed
  rw [bigSep_univ_prod]
  show (bigSep Finset.univ fun b : Bool => bigSep Finset.univ fun p : Fin 32 => semVal ((c : Thread nD τ), copyS (b, p)) 0 : sProp 𝕄) = _
  rw [show (Finset.univ : Finset Bool) = {true, false} from by decide, bigSep_insert (by decide), bigSep_singleton]
  rfl

/-- The kernel changes the result alone. -/
theorem V₂_of_ne (c : Dev nD) (b : Ref sig .tc) (h : b ≠ main_v2) : V₂ m c (Proc.devRef .tc b) = V₁ m c (Proc.devRef .tc b) :=
  Function.update_of_ne (StableHlo.devRef_ne_of_ne h) _ _

/-- The result is what the kernel stores. -/
theorem V₂_self (c : Dev nD) : V₂ m c (Proc.devRef .tc main_v2) = result (xIn m) (gIn m) c := Function.update_self (Proc.devRef .tc main_v2) _ _

/-- The windows' arrays before the call, -/
theorem arr_in (c : Dev nD) : ∀ w : Fin 3, (dats m 0 c).arrAt w 0 = V₁ m c (Proc.devRef .tc (Pipeline.arrRef spec0 w)) := fun _ => rfl

/-- and after it. -/
theorem arr_out (c : Dev nD) : ∀ w : Fin 3, (dats m 0 c).arrAt w cfg0.N = V₂ m c (Proc.devRef .tc (Pipeline.arrRef spec0 w))
  | ⟨0, _⟩ => ((dats m 0 c).arrAt_in (0 : Fin 3) rfl _).trans (V₂_of_ne m c main_arg0 (by decide)).symm
  | ⟨1, _⟩ => ((dats m 0 c).arrAt_in (1 : Fin 3) rfl _).trans (V₂_of_ne m c main_v1 (by decide)).symm
  | ⟨2, _⟩ => ((dats m 0 c).arrAt_eq_of_after_last (2 : Fin 3) t0_0 (by decide +kernel) (result (xIn m) (gIn m) c) (fun _ => rfl)).trans
      (V₂_self m c).symm

/-- A family over a device's copy cells is one over its send cells and one over its receive cells. -/
theorem copies_eq (Φ : SemLoc sig → sProp 𝕄) : (bigSep Finset.univ fun k : Bool × Fin 32 => Φ (copyS k))
    = iprop((bigSep Finset.univ fun p : Fin 32 => Φ (copyS (true, p))) ∗ (bigSep Finset.univ fun p : Fin 32 => Φ (copyS (false, p)))) := by
  rw [bigSep_univ_prod]
  show (bigSep Finset.univ fun b : Bool => bigSep Finset.univ fun p : Fin 32 => Φ (copyS (b, p)) : sProp 𝕄) = _
  rw [show (Finset.univ : Finset Bool) = {true, false} from by decide, bigSep_insert (by decide), bigSep_singleton]
  rfl

/-- At the call a device opens its copy cells. -/
theorem open_cells (κ : GSem nD τ sig → ℕ) (c : Dev nD) :
    iprop(recs (xIn m) κ ∗ ((bigSep Finset.univ fun k : Bool × Fin 32 => openTok ER ((c : Thread nD τ), copyS k)) ∗ Pipeline.ownSems0 copyS c))
      ⊢ (|={Set.univ}=> opened c : sProp 𝕄) := by
  have hone (k : Bool × Fin 32) : iprop(recs (xIn m) κ ∗ (openTok ER ((c : Thread nD τ), copyS k) ∗ semVal ((c : Thread nD τ), copyS k) 0))
      ⊢ (|={Set.univ}=> iprop(atPos ER ((c : Thread nD τ), copyS k) 0 ∅ 0 ∗ reached ER ((c : Thread nD τ), copyS k) 0) : sProp 𝕄) := by
    iintro ⟨#Hr, Ho, Hz⟩
    iapply (Rounds.cell_open ER (rd (xIn m)) (g := ((c : Thread nD τ), copyS k)) (Set.mem_univ (κ ((c : Thread nD τ), copyS k))))
    isplitr
    · iapply (recs_inv (xIn m) κ (g := ((c : Thread nD τ), copyS k))
        (Finset.mem_union_right _ (Finset.mem_map_of_mem ⟨copyCell, copyCell_inj⟩ (Finset.mem_univ (c, k)))))
      iexact Hr
    isplitl [Ho] <;> iassumption
  have hall : iprop(recs (xIn m) κ ∗ bigSep Finset.univ fun k : Bool × Fin 32 =>
        iprop(openTok ER ((c : Thread nD τ), copyS k) ∗ semVal ((c : Thread nD τ), copyS k) 0))
      ⊢ (|={Set.univ}=> bigSep Finset.univ fun k : Bool × Fin 32 =>
        iprop(atPos ER ((c : Thread nD τ), copyS k) 0 ∅ 0 ∗ reached ER ((c : Thread nD τ), copyS k) 0) : sProp 𝕄) :=
    (bigSep_with_persistent (R := recs (xIn m) κ) fun k _ => hone k).trans (bigSep_fupd _ _)
  rw [copies_eq (fun s => iprop(atPos ER ((c : Thread nD τ), s) 0 ∅ 0 ∗ reached ER ((c : Thread nD τ), s) 0)), bigSep_sep'] at hall
  exact hall

/-- At the call the device has its part of the exchange and opens its copy cells; -/
theorem hopen (c : Dev nD) : iprop(kept m c ∗ Pipeline.ownSems0 copyS c ∗ levAts L lv)
    ⊢ (|={Set.univ}=> iprop((∃ κ, dealt (xIn m) κ c) ∗ opened c) : sProp 𝕄) := by
  unfold kept dealt
  iintro ⟨⟨⟨%κ, #Hr, Hd⟩, Ho⟩, Hz, -⟩
  imod (open_cells m κ c) $$ [Ho Hz] with Hop
  · isplitr; · iexact Hr
    isplitl [Ho] <;> iassumption
  imodintro
  isplitl [Hd]
  · iexists κ
    isplitr; · iexact Hr
    iexact Hd
  iexact Hop

/-- with the communication buffer that is what the body starts from. -/
theorem hin (c : Dev nD) : iprop(Pipeline.scopedRest (Pipeline.pin (pcfgs (F := F)) adm 0).spec c ∗ (∃ r, prngReg c r)
    ∗ StableHlo.held (c.tc : Thread nD τ) ∅ (V₁ m c) ∗ ((∃ κ, dealt (xIn m) κ c) ∗ opened c)) ⊢ (start m c : sProp 𝕄) := by
  have hs : (Pipeline.scopedRest (Pipeline.pin (pcfgs (F := F)) adm 0).spec c : sProp 𝕄) = scr c := scopedRest0_eq c
  rw [hs]
  unfold start
  iintro ⟨Hs, Hp, -, Hd, Ho⟩
  isplitl [Hd]; · iexact Hd
  isplitl [Ho]; · iexact Ho
  isplitl [Hs] <;> iassumption

/-- What the body ends with is given back. -/
theorem hout (c : Dev nD) : (done c : sProp 𝕄) ⊢ iprop(Pipeline.scopedRest (Pipeline.pin (pcfgs (F := F)) adm 0).spec c ∗ (∃ r, prngReg c r)
    ∗ StableHlo.held (c.tc : Thread nD τ) ∅ (V₂ m c) ∗ Pipeline.ownSems0 copyS c ∗ semVal (barCell c) 0) := by
  have hs : (Pipeline.scopedRest (Pipeline.pin (pcfgs (F := F)) adm 0).spec c : sProp 𝕄) = scr c := scopedRest0_eq c
  rw [hs, ownSems_eq]
  unfold done
  iintro ⟨Hb, Hc, Hs, Hp⟩
  isplitl [Hs]; · iexact Hs
  isplitl [Hp]; · iexact Hp
  isplitr
  · rw [show (StableHlo.held (c.tc : Thread nD τ) ∅ (V₂ m c) : sProp 𝕄) = BI.emp from BI.bigSep_empty]; iempintro
  isplitl [Hc] <;> iassumption

/-- The proof data of the one call. -/
abbrev pdats (p : Fin 1) (c : Dev nD) : Dat τ (Elt F) Unit ℕ UU ℕ (Pipeline.pin (pcfgs (F := F)) adm p) c := match p with | ⟨0, _⟩ => dats m 0 c

/-- What a device owes at any point was owed at launch. -/
theorem owed_cut (c : Dev nD) (t) (g : GSem nD τ sig) (u : Unit) (h : 0 < (dats m 0 c).owed t g u) : u ∈ L g ∧ 0 < lv g u := by
  obtain ⟨n, hn⟩ := t
  cases n with
  | zero => exact owe_cut h
  | succ n => exact absurd h (Nat.lt_irrefl 0)

/-- The unscoped buffers of a device. -/
abbrev bufs : Finset (DevRef τ sig) := (StableHlo.tcRefs τ sig).filter fun b => ¬ b.isScoped
/-- The unscoped buffers that no window of the call is over. -/
abbrev rest : Finset (DevRef τ sig) := bufs \ Pipeline.arrRefs (τ := τ) spec0

/-- The windows' arrays are unscoped buffers. -/
theorem arr_sub : Pipeline.arrRefs (τ := τ) spec0 ⊆ bufs := by decide
/-- The result is the array of a window. -/
theorem rest_ne : ∀ b ∈ rest, b ≠ Proc.devRef .tc main_v2 := by decide

/-- The pipeline's own semaphores lie at level zero. -/
theorem stage_ne : ∀ (w : Fin 3) (s : Fin (cfg0.win w).nbuf) (p : Fin 32), (cfg0.win w).sem s ≠ recvS p := by decide
/-- So their waits lie below all that is owed. -/
theorem stage_level (c : Dev nD) (w : Fin 3) (s : Fin (cfg0.win w).nbuf) : lv ((c : Thread nD τ), .dma ((cfg0.win w).sem s)) () ≤ 0 := by
  unfold lv
  rw [if_neg (bar_ne_dma _), if_neg (fun ⟨p, hp⟩ => stage_ne w s p (SemLoc.dma.inj hp))]

set_option backward.isDefEq.respectTransparency.types false in
/-- The kernel's call. -/
def reg0 : Pipeline.RegionSeg (pcfgs (F := F)) adm (pdats m) () defs₀ 𝒱₀ L lv 0 :=
  Pipeline.RegionSeg.ofTalk (pcfgs (F := F)) adm (pdats m) () defs₀ 𝒱₀ L lv 0 copyS (by decide +kernel : Pipeline.OwnSemFacts spec0 copyS)
    ∅ rest (Finset.empty_subset _) launch0.toP rfl (fun c => (body_obligation m c).loose)
    (fun _ => 0) owe (fun _ => (zero_add _).symm) (fun _ => rfl) (fun _ => rfl) (fun c w => by unfold Dat.share; exact ite_self _)
    (V₁ m) (V₂ m) (fun c b hb => Function.update_of_ne (rest_ne b (Finset.mem_sdiff.mp hb).1) _ _)
    (kept m) (fun c => semVal (barCell c) 0) (fun c => iprop((∃ κ, dealt (xIn m) κ c) ∗ opened c)) (fun c => semVal (barCell c) 0)
    (hopen m) (hin m) (hout m)
    (fun c => by iintro H; imodintro; iexact H)
    (fun _ => 0)
    ⟨fun _ _ _ => mem_L _ _ _, fun c w s => stage_level c w s, fun c t g i h => owed_cut m c t g i h⟩
    (fun _ => iprop(emp))
    (arr_in m) (arr_out m)

end Cert.Proof
-- ==== Proof.Launch.lean ====
/-
  The launch: every cell made, each device dealt its part of the exchange, and the run of the whole program.
-/
module

public import proofs.«01_k».proof.Proof.Region
public import Idealize.ShloMosaic.Lib.Pipeline.Regions

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Buffers and counters held from the start -/

/-- A device's buffers that outlive the call, at given contents, as one holding. -/
theorem unscopedBufs_held (c : Dev nD) (W : Valuation τ sig (Elt F)) :
    (unscopedBufs (Ix := Unit) (Name := ℕ) (U := UU) (Lvl := ℕ) c (fun b => W b) : sProp 𝕄) = StableHlo.held (c : Thread nD τ) bufs W := by
  unfold unscopedBufs StableHlo.held bufs StableHlo.tcRefs
  rw [Finset.filter_map, BI.bigSep_map]
  rfl

/-- They are the two arguments, the reshaped weights and the result. -/
theorem bufs_eq (c : Dev nD) (W : Valuation τ sig (Elt F)) : (StableHlo.held (c : Thread nD τ) bufs W : sProp 𝕄)
    = iprop(((c : Thread nD τ).loc main_arg0 ↦{fullShare} W main_arg0) ∗ ((c : Thread nD τ).loc main_arg1 ↦{fullShare} W main_arg1)
      ∗ ((c : Thread nD τ).loc main_v1 ↦{fullShare} W main_v1) ∗ ((c : Thread nD τ).loc main_v2 ↦{fullShare} W main_v2)) := by
  unfold StableHlo.held
  rw [bigSep_eq_bigSepL_of_eq [Proc.devRef .tc main_arg0, Proc.devRef .tc main_arg1, Proc.devRef .tc main_v1, Proc.devRef .tc main_v2]
    (by decide) (by decide)]
  rfl

/-- The one counter that outlives the call is the barrier's. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS.sem} from by decide +kernel, bigSep_singleton]

/-! ## The program's two segments -/

/-- A device's part of the exchange, from the launch to the call. -/
def part (c : Dev nD) : sProp 𝕄 :=
  iprop(kept m c ∗ (∃ r, prngReg c r) ∗ ∃ W, owes (c : Thread nD τ) (owe c) W)

/-- The reshape before the call touches these buffers only -/
theorem ops_sub : ∀ op ∈ (hostOps0 : List (HloOp τ sig (Elt F))), op.bufs ⊆ bufs := fun op h => by
  simp only [hostOps0, List.mem_singleton] at h; subst h
  show ({Proc.devRef .tc main_arg1, Proc.devRef .tc main_v1} : Finset (DevRef τ sig)) ⊆ bufs; decide
/-- and allocates none. -/
theorem ops_fresh : ∀ op ∈ (hostOps0 : List (HloOp τ sig (Elt F))), op.fresh = ∅ := List.forall_iff_forall_mem.mp hostOps0_fresh

/-- The weights reshaped; the exchange's part rides along. -/
def seg0 : Pipeline.HostSeg (Name := ℕ) (U := UU) (pcfgs (F := F)) defs₀ 𝒱₀ L lv :=
  Pipeline.HostSeg.ofOps _ _ _ _ _ bufs hostOps0 ops_sub ops_fresh (V₀ m) (part m)

/-- The program: the reshape, then the call. -/
def segs : List (Pipeline.Seg (pcfgs (F := F)) adm (pdats m) () defs₀ 𝒱₀ L lv) := [.host (seg0 m), .region (reg0 m)]

/-- The printed program is its two segments in order. -/
theorem main_eq (c : Dev nD) : main (F := F) c = Pipeline.Seg.run (segs m) :=
  main_segs adm (pdats m) () 𝒱₀ L lv (seg0 m) (reg0 m) rfl c

/-- What the reshape leaves is what the call starts from. -/
theorem reg_pre (c : Dev nD) : iprop(StableHlo.held (c : Thread nD τ) bufs (V₁ m c) ∗ part m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) rest (V₁ m c) ∗ emp) ∗ kept m c ∗ ∃ Wd, owes (c : Thread nD τ) (0 + owe c) Wd)
  rw [StableHlo.held_sub_split (c : Thread nD τ) arr_sub (V₁ m c), zero_add]
  unfold part
  iintro ⟨⟨Ha, Hr⟩, Hk, Hp, HO⟩
  isplitl [Ha]; · iexact Ha
  isplitl [Hp]; · iexact Hp
  isplitl [Hr]
  · isplitl [Hr]; · iexact Hr
    iempintro
  isplitl [Hk] <;> iassumption

/-- What the call leaves is the result in place, the arguments kept and the barrier's counter at zero. -/
theorem reg_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) spec0) (V₂ m c) ∗ (∃ r, prngReg c r)
    ∗ (StableHlo.held (c.tc : Thread nD τ) rest (V₂ m c) ∗ emp) ∗ semVal (barCell c) 0 ∗ ∃ Wd, owes (c : Thread nD τ) (0 : CellTallies nD τ sig Unit) Wd) ⊢ _
  rw [StableHlo.held_sub_split (c : Thread nD τ) arr_sub (V₂ m c)]
  iintro ⟨Ha, -, ⟨Hr, -⟩, Hb, HO⟩
  isplitr [HO]
  · isplitr [Hb]
    · isplitl [Ha] <;> iassumption
    · iexact Hb
  · iexact HO

/-! ## Credits -/

/-- Send cells differ when their devices or places do; -/
theorem sendCell_inj {c c' : Dev nD} {p p' : Fin 32} (h : sendCell c p = sendCell c' p') : c = c' ∧ p = p' :=
  have e : (c, true, p) = (c', true, p') := copyCell_inj h
  ⟨congrArg Prod.fst e, congrArg (fun x => x.2.2) e⟩
/-- so do receive cells; -/
theorem recvCell_inj {c c' : Dev nD} {p p' : Fin 32} (h : recvCell c p = recvCell c' p') : c = c' ∧ p = p' :=
  have e : (c, false, p) = (c', false, p') := copyCell_inj h
  ⟨congrArg Prod.fst e, congrArg (fun x => x.2.2) e⟩
/-- and no send cell is a receive cell. -/
theorem send_ne_recv {c c' : Dev nD} {p p' : Fin 32} : sendCell c p ≠ recvCell c' p' := fun h =>
  have e : (c, true, p) = (c', false, p') := copyCell_inj h
  Bool.noConfusion (congrArg (fun x => x.2.1) e)

/-- A sum of debts over the other places, read at a cell. -/
theorem due_apply (d : Dev nD) (f : Fin 32 → CellTallies nD τ sig Unit) (g : GSem nD τ sig) (u : Unit) :
    due d f places g u = ∑ p : Fin 32, if p = d then 0 else f p g u := by
  have h (l : List (Fin 32)) : due d f l g u = (l.map fun p => if p = d then 0 else f p g u).sum := by
    induction l with
    | nil => rfl
    | cons p l ih =>
      by_cases hp : p = d
      · subst hp; rw [due_own, ih, List.map_cons, List.sum_cons, if_pos rfl, Nat.zero_add]
      · rw [due_cons d f p l hp, Pi.add_apply, Finsupp.add_apply, ih, List.map_cons, List.sum_cons, if_neg hp, Nat.add_comm]
  rw [h, Fin.sum_univ_def]

/-- A barrier cell is owed a unit by each other device, -/
theorem owed_bar (d c : Dev nD) : owe d (barCell c) () = if c = d then 0 else 1 := by
  unfold owe oweRows oweUnits
  rw [Pi.add_apply, Finsupp.add_apply, due_apply, due_apply]
  rw [Finset.sum_eq_zero fun p _ => by rw [tallyAt_ne_cell (fun h => bar_ne_dma _ (congrArg Prod.snd h).symm)]; exact ite_self _, Nat.zero_add,
    Finset.sum_eq_single c (fun p _ hp => by
      rw [tallyAt_apply, if_neg (c := barCell c = barCell p ∧ () = ()) (fun h => hp (barCell_inj h.1).symm)]; exact ite_self _)
      (fun h => absurd (Finset.mem_univ c) h), tallyAt_apply, if_pos (c := barCell c = barCell c ∧ () = ()) ⟨rfl, rfl⟩]

/-- and a receive cell for a place the row's credit by that place's device. -/
theorem owed_recv (d c p : Dev nD) (hp : p ≠ c) : owe d (recvCell c p) () = if d = p then N else 0 := by
  unfold owe oweRows oweUnits
  rw [Pi.add_apply, Finsupp.add_apply, due_apply, due_apply]
  rw [Finset.sum_eq_zero (f := fun q : Fin 32 => if q = d then 0 else tallyAt (barCell q) () 1 (recvCell c p) ())
      fun q _ => by rw [tallyAt_ne_cell (fun h => bar_ne_dma _ (congrArg Prod.snd h))]; exact ite_self _, Nat.add_zero,
    Finset.sum_eq_single c (fun q _ hq => by
      rw [tallyAt_apply, if_neg (c := recvCell c p = recvCell q d ∧ () = ()) (fun h => hq (recvCell_inj h.1).1.symm)]; exact ite_self _)
      (fun h => absurd (Finset.mem_univ c) h), tallyAt_apply]
  by_cases h : d = p
  · subst h; rw [if_neg (Ne.symm hp), if_pos (c := recvCell c d = recvCell c d ∧ () = ()) ⟨rfl, rfl⟩, if_pos rfl]
  · rw [if_neg (c := recvCell c p = recvCell c d ∧ () = ()) (fun h' => h (recvCell_inj h'.1).2.symm), if_neg h]; exact ite_self _

/-- There are 31 other devices. -/
theorem others : ∀ c : Fin 32, (∑ d : Fin 32, if c = d then 0 else 1) = 31 := by decide

/-- All the units owed to a barrier cell make 31. -/
theorem launch_bar (c : Dev nD) :
    tallyOn (barCell c) (launchCredit (Pipeline.owing owe) 0 (barCell c)) = (tallyAt (barCell c) () 31 : CellTallies nD τ sig Unit) := by
  unfold tallyAt
  refine congrArg _ (Finsupp.ext fun u => ?_)
  rw [Pipeline.launchCredit_owing, Finsupp.single_eq_same, Finset.sum_congr rfl fun d _ => owed_bar d c]
  exact others c

/-- What is owed to a receive cell is one row. -/
theorem launch_recv (c p : Dev nD) (hp : p ≠ c) :
    tallyOn (recvCell c p) (launchCredit (Pipeline.owing owe) 0 (recvCell c p)) = (tallyAt (recvCell c p) () N : CellTallies nD τ sig Unit) := by
  unfold tallyAt
  refine congrArg _ (Finsupp.ext fun u => ?_)
  rw [Pipeline.launchCredit_owing, Finsupp.single_eq_same, Finset.sum_congr rfl fun d _ => owed_recv d c p hp,
    Finset.sum_ite_eq' Finset.univ p fun _ => N, if_pos (Finset.mem_univ _)]

/-- The credit a device is launched with: 31 units on its barrier cell and a row on each receive cell but its own. -/
theorem creds (c : Dev nD) : (Pipeline.launchCred owe c : sProp 𝕄)
    ⊢ iprop(cred (tallyAt (barCell c) () 31) ∗ (bigSep Finset.univ fun p : Fin 32 => away c p (cred (tallyAt (recvCell c p) () N)))) := by
  unfold Pipeline.launchCred
  rw [bigSep_univ_at _ (SemLoc.reg barS.sem), launch_bar]
  refine sep_mono_right (BIBase.Entails.trans ?_ (bigSep_away c fun p => cred (tallyAt (recvCell c p) () N)))
  refine (BI.bigSep_subset (t := (Finset.univ.erase c).map ⟨fun p : Fin 32 => SemLoc.dma (recvS p), fun p q h => (recvCell_inj (c := c) (c' := c)
    (congrArg (Prod.mk (c : Thread nD τ)) h)).2⟩) ?_).trans ?_
  · intro s hs
    obtain ⟨p, -, rfl⟩ := Finset.mem_map.mp hs
    exact Finset.mem_erase.mpr ⟨bar_ne_dma _, Finset.mem_univ _⟩
  · rw [BI.bigSep_map]
    exact bigSep_mono fun p hp => Entails.of_eq (congrArg cred (launch_recv c p (Finset.ne_of_mem_erase hp)))

/-! ## Tokens -/

/-- The duties device `c` pays: at every barrier cell, its own send cells, and its receive cell of every device. -/
def payOf (ck : Dev nD × Fin 3 × Fin 32) : GSem nD τ sig × ℕ × Fin 32 :=
  match ck.2.1 with
  | 0 => (barCell ck.2.2, 0, ck.1)
  | 1 => (sendCell ck.1 ck.2.2, 0, ck.2.2)
  | 2 => (recvCell ck.2.2 ck.1, 0, ck.1)

/-- No duty is paid twice. -/
theorem payOf_inj : Function.Injective payOf := by
  rintro ⟨c, k, p⟩ ⟨c', k', p'⟩ h
  have hg := congrArg Prod.fst h
  have hd := congrArg (fun x => x.2.2) h
  fin_cases k <;> fin_cases k'
  · obtain rfl := barCell_inj hg; obtain rfl : c = c' := hd; rfl
  · exact absurd (congrArg Prod.snd hg).symm (bar_ne_dma _)
  · exact absurd (congrArg Prod.snd hg).symm (bar_ne_dma _)
  · exact absurd (congrArg Prod.snd hg) (bar_ne_dma _)
  · obtain ⟨rfl, rfl⟩ := sendCell_inj hg; rfl
  · exact absurd hg send_ne_recv
  · exact absurd (congrArg Prod.snd hg) (bar_ne_dma _)
  · exact absurd hg.symm send_ne_recv
  · obtain ⟨rfl, rfl⟩ := recvCell_inj hg; rfl

/-- The tokens of all duties. -/
def toks : Finset (GSem nD τ sig × ℕ × Fin 32) := Finset.univ.map ⟨payOf, payOf_inj⟩

/-- The tokens of the duties a device pays. -/
def paid (c : Dev nD) : sProp 𝕄 :=
  iprop((bigSep Finset.univ fun p : Fin 32 => dutyTok ER (barCell p) 0 c)
    ∗ (bigSep Finset.univ fun p : Fin 32 => dutyTok ER (sendCell c p) 0 p)
    ∗ (bigSep Finset.univ fun p : Fin 32 => dutyTok ER (recvCell p c) 0 c))

/-- The tokens of all duties are those each device pays. -/
theorem toks_eq : bigSep toks (fun x => (dutyTok ER x.1 x.2.1 x.2.2 : sProp 𝕄)) = bigSep Finset.univ fun c : Dev nD => paid c := by
  unfold toks; rw [BI.bigSep_map, bigSep_univ_prod]
  refine bigSep_congr fun c _ => ?_
  rw [bigSep_univ_prod]
  exact bigSep_W0 _

/-! ## Dealing -/

/-- The launch element. -/
def u₀ : UU :=
  (initOf (Pipeline.cells (Pipeline.pin (pcfgs (F := F)) adm) cellOf_inj) (Pipeline.launchToks (Pipeline.pin (pcfgs (F := F)) adm) cellOf_inj),
    launchOf barCells copyCells toks)

/-- A resource on one device. -/
def parked (c₀ : Dev nD) (A : sProp 𝕄) (c : Dev nD) : sProp 𝕄 := if c = c₀ then A else iprop(emp)
/-- Held on one device, it is held once. -/
theorem bigSep_parked (c₀ : Dev nD) (A : sProp 𝕄) : bigSep Finset.univ (parked c₀ A) = A := by
  rw [bigSep_univ_at _ c₀, bigSep_congr (s := Finset.univ.erase c₀) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- The exchange's launch element lies on device 0 until it is dealt. -/
def G : Dev nD → sProp 𝕄 := parked 0 (BI.own (ER (launchOf barCells copyCells toks)))

/-- What of a device's launch is its own from the start, -/
def bundle (c : Dev nD) : sProp 𝕄 :=
  iprop(StableHlo.held (c : Thread nD τ) bufs (V₀ m c) ∗ (cred (tallyAt (barCell c) () 31)
      ∗ (bigSep Finset.univ fun p : Fin 32 => away c p (cred (tallyAt (recvCell c p) () N))))
    ∗ owes (c : Thread nD τ) (owe c) ∅ ∗ ∃ r, prngReg c r)
/-- and what it is dealt. -/
def dealing (c : Dev nD) : sProp 𝕄 :=
  iprop(atPos ER (barCell c) 0 ∅ 0 ∗ (bigSep Finset.univ fun k : Bool × Fin 32 => openTok ER ((c : Thread nD τ), copyS k)) ∗ paid c)

/-- What a device holds before the program, -/
abbrev T₀ (c : Dev nD) : sProp 𝕄 := iprop(StableHlo.held (c : Thread nD τ) bufs (V₀ m c) ∗ part m c)
/-- and after it. -/
abbrev Tₙ (c : Dev nD) : sProp 𝕄 := iprop(StableHlo.held (c : Thread nD τ) bufs (V₂ m c) ∗ semVal (barCell c) 0)

/-- What is dealt and what is a device's own make what it holds before the program. -/
theorem T₀_intro (κ : GSem nD τ sig → ℕ) (c : Dev nD) :
    iprop((recs (xIn m) κ ∗ levAts L lv) ∗ (dealing c ∗ bundle m c)) ⊢ T₀ m c := by
  unfold dealing paid bundle T₀ part kept dealt
  iintro ⟨⟨#HR, #HL⟩, ⟨Hat, Hop, Ht1, Ht2, Ht3⟩, Hh, ⟨H1, HN⟩, HO, Hp⟩
  isplitl [Hh]; · iexact Hh
  isplitl [Hat Hop Ht1 Ht2 Ht3 H1 HN]
  · isplitr [Hop]
    · iexists κ
      isplitr; · iexact HR
      isplitr; · iexact HL
      isplitl [Hat]; · iexact Hat
      isplitl [H1]; · iexact H1
      isplitl [Ht1]; · iexact Ht1
      isplitl [Ht2]; · iexact Ht2
      isplitl [Ht3] <;> iassumption
    · iexact Hop
  isplitl [Hp]; · iexact Hp
  iexists ∅; iexact HO

/-- The launch holdings of all the devices make each device's part. -/
theorem init :
    iprop((bigSep Finset.univ fun c : Dev nD => iprop(unscopedBufs c (fun b => m ((c : Thread nD τ).loc b)) ∗ unscopedSems0 c
          ∗ owes (c : Thread nD τ) (owe c) ∅ ∗ Pipeline.launchCred owe c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe c) ∅ ∗ Pipeline.launchCred owe c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems_eq]
    unfold bundle
    iintro ⟨Hh, Hus, HO, Hcr, Hp, HG⟩
    isplitl [Hh HO Hcr Hp]
    · isplitl [Hh]; · iexact Hh
      isplitl [Hcr]; · iapply (creds (F := F) c) $$ Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) ⟨barCell, barCell_inj⟩ (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) ⟨barCell, barCell_inj⟩ (Φ := fun g : GSem nD τ sig => (atPos ER g 0 ∅ 0 : sProp 𝕄)))
  have hop : bigSep copyCells (fun g => (openTok ER g : sProp 𝕄))
      ⊢ bigSep Finset.univ (fun c : Dev nD => bigSep Finset.univ fun k : Bool × Fin 32 => openTok ER ((c : Thread nD τ), copyS k)) :=
    Entails.of_eq (by unfold copyCells; rw [BI.bigSep_map, bigSep_univ_prod]; rfl)
  iintro ⟨H, #HL⟩
  ihave H' := (show (bigSep Finset.univ fun c : Dev nD => iprop(unscopedBufs c (fun b => m ((c : Thread nD τ).loc b)) ∗ unscopedSems0 c
          ∗ owes (c : Thread nD τ) (owe c) ∅ ∗ Pipeline.launchCred owe c ∗ prngReg c (ρ c) ∗ G c))
      ⊢ (iprop(bigSep Finset.univ (bundle m) ∗ (bigSep Finset.univ fun c : Dev nD => semVal (barCell c) 0) ∗ bigSep Finset.univ G) : sProp 𝕄) from by
    rw [← bigSep_sep', ← bigSep_sep']; exact bigSep_mono fun c _ => hcore c) $$ H
  icases H' with ⟨HB, Hv, HG⟩
  ihave Hu := (show bigSep Finset.univ (G (F := F)) ⊢ BI.own (ER (launchOf barCells copyCells toks)) from
    Entails.of_eq (bigSep_parked (F := F) 0 (BI.own (ER (launchOf barCells copyCells toks))))) $$ HG
  imod (Rounds.fund_launch ER (rd (xIn m)) cells_disjoint (fun g _ h => h) toks) $$ [Hv Hu] with ⟨%κ, -, #Hinv, #Hr, Hat, Hopen, Htok⟩
  · isplitl [Hv]
    · iapply hv $$ Hv
    · iexact Hu
  imodintro
  iapply (bigSep_with_persistent (R := iprop(recs (xIn m) κ ∗ levAts L lv)) (Φ := fun c => iprop(dealing c ∗ bundle m c)) fun c _ => T₀_intro m κ c)
  isplitr
  · isplitr
    · unfold recs
      isplitr; · iexact Hinv
      iexact Hr
    · iexact HL
  unfold dealing
  rw [bigSep_sep', bigSep_sep', bigSep_sep']
  isplitr [HB]
  · isplitl [Hat]; · iapply hat $$ Hat
    isplitl [Hopen]; · iapply hop $$ Hopen
    iapply (Entails.of_eq (toks_eq (F := F))) $$ Htok
  · iexact HB

/-! ## The run -/

/-- No counter but the barrier's outlives the call. -/
theorem unscoped_eq : ∀ sm : SemLoc sig, sm.isScoped .tc = false → sm = .reg barS.sem := by decide +kernel

set_option backward.isDefEq.respectTransparency.types false in
/-- From any memory with every counter at zero, every fair run of the program on the 32 devices ends, each device's arguments unchanged,
    its result holding what the exchange and the weighting make of all the devices' blocks, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = result (xIn m) (gIn m) c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := owe) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_parked]; iexact HX)
    (T₀ := T₀ m) (Tₙ := Tₙ m)
    (hch := ⟨fun c => .rfl, fun c => reg_pre m c, fun c => reg_post m c⟩)
    (hinit := init m ρ)
    (QY := fun c s => (s.mem ((Memref.whole main_arg0).view.loc (c : Thread nD τ)) = V₂ m c main_arg0
        ∧ s.mem ((Memref.whole main_arg1).view.loc (c : Thread nD τ)) = V₂ m c main_arg1
        ∧ s.mem ((Memref.whole main_v2).view.loc (c : Thread nD τ)) = V₂ m c main_v2) ∧ s.sem (barCell c) = 0)
    (hfin := fun c s' => by
      dsimp only [Tₙ]; rw [bufs_eq]
      iintro ⟨⟨⟨H0, H1, -, H2⟩, Hb⟩, HSI⟩
      icombine HSI H0 gives %h0
      icombine HSI H1 gives %h1
      icombine HSI H2 gives %h2
      icombine HSI Hb gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        refine ⟨h0.trans ?_, h1.trans ?_, h2.trans (V₂_self m c)⟩
        · exact (V₂_of_ne m c main_arg0 (by decide)).trans (V_main_arg0 m c)
        · exact (V₂_of_ne m c main_arg1 (by decide)).trans (V_main_arg1 m c),
      sem_eq_zero hs fun c sm hsm => by
        obtain rfl := unscoped_eq sm hsm
        exact (h c).2⟩)

end Cert.Proof
-- ==== Proof.Normalise.lean ====
/-
  The reference's result, entry by entry, over the extended reals, and the one equation of scalars by which the
  kernel's way of normalising — a product with a reciprocal root — is the reference's division by the root.
-/
module

public import proofs.«01_k».proof.Proof.Gen.ReferenceIdeal.Run
public import Idealize.ShloMosaic.Lib.Pointwise

@[expose] public section

noncomputable section

namespace Cert.Proof

open Cert.ReferenceIdeal Cert.ReferenceIdeal.Gen
open Idealize.ShloMosaic Idealize.ShloMosaic.TcCoe

/-! ## The reference's result at an entry -/

/-- The reference's result, as a function of its two whole arguments. -/
def ref (x : FVec Ideal S768x16384 .f32) (g : FVec Ideal S16384 .f32) :
    FVec Ideal S768x16384 .f32 :=
  Host.divf (mulf (broadcastInDim S768x16384 ![0, 1] bcast_S1x16384_S768x16384_0_1 (broadcastInDim S1x16384 ![1] bcast_S16384_S1x16384_1 g)) x)
    (broadcastInDim S768x16384 ![0, 1] bcast_S768x1_S768x16384_0_1
      (Host.sqrt (addf (Host.divf (broadcastInDim S768x1 ![0] bcast_S768_S768x1_0
          (Host.reduceAdd (mulf x x) (constant S_ .f32 0x00000000#32) reducesTo_S768x16384_S768_d1 h_S_))
        (broadcastInDim S768x1 ![] bcast_S_S768x1 (constant S_ .f32 0x46800000#32)))
        (broadcastInDim S768x1 ![] bcast_S_S768x1 (constant S_ .f32 0x3727C5AC#32)))))

/-- An entry of the reference's result: the scaled entry over the root of the row's mean square plus the small constant. -/
theorem ref_at (x : FVec Ideal S768x16384 .f32) (g : FVec Ideal S16384 .f32) (r : Fin 768) (k : Fin 16384) :
    ref x g (ix2 r k) = Ideal.div (g (ix1 k) * x (ix2 r k))
      (Ideal.sqrt (Ideal.div (∑ j : Fin 16384, x (ix2 r j) * x (ix2 r j)) (Ideal.ofBits .f32 0x46800000#32)
          + Ideal.ofBits .f32 0x3727C5AC#32)) := by
  pointwise [ref]

/-! ## The two normalisations agree -/

/-- The row length the sum of squares is divided by is the real 16384. -/
theorem row_length : Ideal.ofBits .f32 0x46800000#32 = ((16384 : ℝ) : EReal) := by
  simp [Ideal.ofBits, Ideal.ieee, -EReal.coe_mul]; norm_num

/-- The small constant added to the mean square is a positive real. -/
theorem small_pos : ∃ e : ℝ, 0 < e ∧ Ideal.ofBits .f32 0x3727C5AC#32 = (e : EReal) := by
  refine ⟨10995116 * (1 / 1099511627776), by norm_num, ?_⟩
  simp [Ideal.ofBits, Ideal.ieee, -EReal.coe_mul]
  norm_num

/-- A square of an extended real is not negative. -/
theorem sq_nonneg' (x : EReal) : 0 ≤ x * x := by
  rcases le_total 0 x with h | h
  · exact mul_nonneg h h
  · have := EReal.neg_nonneg.mpr h
    simpa using mul_nonneg this this

/-- Multiplying by the reciprocal root of a mean square is dividing by its root, at a sum of squares `t` of any size, infinite included. -/
theorem rsqrt_div (x g t : EReal) (ht : 0 ≤ t) :
    x * g * Ideal.rsqrt (Ideal.div t (Ideal.ofBits .f32 0x46800000#32) + Ideal.ofBits .f32 0x3727C5AC#32)
      = Ideal.div (g * x) (Ideal.sqrt (Ideal.div t (Ideal.ofBits .f32 0x46800000#32) + Ideal.ofBits .f32 0x3727C5AC#32)) := by
  obtain ⟨e, he, hE⟩ := small_pos
  rw [row_length, hE, Ideal.div_coe (by norm_num), mul_comm x g]
  induction t with
  | bot => exact absurd ht (by simp)
  | top =>
    rw [EReal.top_mul_coe_of_pos (by norm_num), EReal.top_add_coe, Ideal.rsqrt_top, Ideal.sqrt_top]
    simp [Ideal.div]
  | coe t =>
    have ht' : 0 ≤ t := EReal.coe_nonneg.mp ht
    rw [← EReal.coe_mul, ← EReal.coe_add]
    have hu : 0 < t * (1 / 16384) + e := by positivity
    rw [Ideal.rsqrt_coe, Ideal.sqrt_coe, if_neg hu.not_gt, if_neg hu.not_gt, if_neg hu.ne',
      Ideal.div_coe (Real.sqrt_pos.mpr hu).ne', one_div (√_)]

end Cert.Proof

end
-- ==== Proof.Value.lean ====
/-
  The kernel's result and the reference's, entry by entry, over the extended reals.
-/
module

public import proofs.«01_k».proof.Proof.Launch
public import proofs.«01_k».proof.Proof.Normalise
public import Idealize.ShloMosaic.Lib.Pointwise
public import Idealize.ShloMosaic.Lib.Layout
public import Idealize.ShloMosaic.Lib.Pipeline.ValueKit

@[expose] public section

noncomputable section

namespace Cert.Proof

open Cert.KernelIdeal Cert.KernelIdeal.Gen
open Idealize.ShloMosaic Idealize.ShloMosaic.TcCoe

/-! ## The kernel's result at an entry -/

/-- A partial sum is the sum of the squares of one row of one device's block. -/
theorem sums_at (X : Dev nD → FVec Ideal S768x512 .f32) (d : Fin 32) (a : Fin 6) (b : Fin 128) :
    sums X (ix3 d a b) = ∑ k : Fin 512, X d (ix2 ⟨a.val * 128 + b.val, by omega⟩ k) * X d (ix2 ⟨a.val * 128 + b.val, by omega⟩ k) := by
  unfold sums
  pointwise [k0_pay3, k0_pay2]

/-- An entry of the result: the weighted entry times the reciprocal root of the row's mean square, over all the devices' blocks, plus the small constant. -/
theorem result_at (X : Dev nD → FVec Ideal S768x512 .f32) (G : Dev nD → FVec Ideal S1x512 .f32) (c : Dev nD) (r : Fin 768) (l : Fin 512) :
    result X G c (ix2 r l) = X c (ix2 r l) * G c (ix2 0 l)
      * Ideal.rsqrt (Ideal.div (∑ d : Fin 32, ∑ k : Fin 512, X d (ix2 r k) * X d (ix2 r k)) (Ideal.ofBits .f32 0x46800000#32)
          + Ideal.ofBits .f32 0x3727C5AC#32) := by
  have hr : (⟨r.val / 128 * 128 + r.val % 128, by omega⟩ : Fin 768) = r := Fin.ext (by show r.val / 128 * 128 + r.val % 128 = r.val; omega)
  unfold result
  pointwise [k0_pay1, k0_pay4, k0_pay2]
  simp only [sums_at, hr]

/-! ## The blocks staged -/

/-- The staged block of `x` is the device's argument. -/
theorem xIn_eq (m : (ℓ : Loc nD τ sig) → Buf (Elt Ideal) ℓ) (c : Dev nD) : xIn m c = m ((c : Thread nD τ).loc main_arg0) := by
  unfold xIn
  have h : V₁ m c (Proc.devRef .tc main_arg0) = m ((c : Thread nD τ).loc main_arg0) := V_main_arg0 m c
  have h0 : win0_0.index t0_0 0 = 0 := rfl
  have h1 : win0_0.index t0_0 1 = 0 := rfl
  rw [h]
  blk_ext!
  all_goals first | (rw [h0]; omega) | (rw [h1]; omega)

/-- The staged block of the weights is the device's argument, as one row. -/
theorem gIn_at (m : (ℓ : Loc nD τ sig) → Buf (Elt Ideal) ℓ) (c : Dev nD) (l : Fin 512) :
    gIn m c (ix2 0 l) = m ((c : Thread nD τ).loc main_arg1) (ix1 l) := by
  have h : V₁ m c (Proc.devRef .tc main_v1) = shapeCast S1x512 (m ((c : Thread nD τ).loc main_arg1)) shapeCasts_S512_S1x512 := by
    after_results
    rfl
  have he : (win0_1.blk t0_0).view.emb (ix2 0 l) = ix2 0 l := by
    have h0 : win0_1.index t0_0 0 = 0 := rfl
    have h1 : win0_1.index t0_0 1 = 0 := rfl
    blk_ext!
    all_goals first | (rw [h0]; rfl) | (rw [h1]; omega)
  unfold gIn
  show V₁ m c (Proc.devRef .tc main_v1) ((win0_1.blk t0_0).view.emb (ix2 0 l)) = _
  rw [h, he]
  pointwise

/-! ## The kernel's result is the reference's, block by block -/

/-- When each device holds its block of the two whole arguments, each device's result is its block of the reference's. -/
theorem result_eq (X : Dev nD → FVec Ideal S768x512 .f32) (G : Dev nD → FVec Ideal S1x512 .f32)
    (x : FVec Ideal Cert.ReferenceIdeal.S768x16384 .f32) (g : FVec Ideal Cert.ReferenceIdeal.S16384 .f32)
    (hX : ∀ (c : Fin 32) (r : Fin 768) (l : Fin 512), X c (ix2 r l) = x (ix2 r ⟨c.val * 512 + l.val, by omega⟩))
    (hG : ∀ (c : Fin 32) (l : Fin 512), G c (ix2 0 l) = g (ix1 ⟨c.val * 512 + l.val, by omega⟩))
    (c : Fin 32) (r : Fin 768) (l : Fin 512) :
    result X G c (ix2 r l) = ref x g (ix2 r ⟨c.val * 512 + l.val, by omega⟩) := by
  rw [result_at, ref_at, Fin.sum_univ_tiles 32 512 rfl]
  simp only [hX, hG]
  exact rsqrt_div _ _ _ (Finset.sum_nonneg fun _ _ => Finset.sum_nonneg fun _ _ => sq_nonneg' _)

/-- Where entry `(r, l)` of device `c`'s block of columns lies in the whole array, -/
theorem idx_cols (h : Layout.Tiles ⟨2, ![768, 512]⟩ ⟨2, ![768, 16384]⟩ 1 32) (c : Fin 32) (r : Fin 768) (l : Fin 512) :
    h.idx c (ix2 r l) = ix2 r ⟨c.val * 512 + l.val, by omega⟩ := by
  funext a
  match a with
  | 0 => rfl
  | 1 => rfl

/-- and where entry `l` of its block of the weights lies in the whole vector. -/
theorem idx_weights (h : Layout.Tiles ⟨1, ![512]⟩ ⟨1, ![16384]⟩ 0 32) (c : Fin 32) (l : Fin 512) :
    h.idx c (ix1 l) = ix1 ⟨c.val * 512 + l.val, by omega⟩ := by
  funext a
  match a with
  | 0 => rfl

/-- The same of the memory the program starts from and the buffers it reads. -/
theorem result_block (m : (ℓ : Loc nD τ sig) → Buf (Elt Ideal) ℓ)
    (x : FVec Ideal Cert.ReferenceIdeal.S768x16384 .f32) (g : FVec Ideal Cert.ReferenceIdeal.S16384 .f32)
    (h0 : ∀ c : Dev nD, m ((c : Thread nD τ).loc main_arg0) = Layout.block ⟨2, ![768, 512]⟩ ⟨2, ![768, 16384]⟩ 1 32 c x)
    (h1 : ∀ c : Dev nD, m ((c : Thread nD τ).loc main_arg1) = Layout.block ⟨1, ![512]⟩ ⟨1, ![16384]⟩ 0 32 c g)
    (c : Dev nD) : result (xIn m) (gIn m) c = Layout.block ⟨2, ![768, 512]⟩ ⟨2, ![768, 16384]⟩ 1 32 c (ref x g) := by
  funext i
  obtain ⟨r, l, rfl⟩ : ∃ (r : Fin 768) (l : Fin 512), i = ix2 r l := ⟨i 0, i 1, by blk_ext⟩
  refine (result_eq (xIn m) (gIn m) x g (fun c r l => ?_) (fun c l => ?_) c r l).trans ?_
  · rw [xIn_eq, h0]
    exact congrArg x (idx_cols _ c r l)
  · rw [gIn_at, h1]
    exact congrArg g (idx_weights _ c l)
  · exact congrArg (ref x g) (idx_cols _ c r l).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as written and the idealized one call the same bodies, -/
theorem defs₀_eq : Cert.Kernel.defs₀ (F := Bits) = Cert.KernelIdeal.defs₀ (F := Bits) := by
  unfold Cert.Kernel.defs₀ Cert.KernelIdeal.defs₀
  refine congrArg Defs.onTc ?_
  funext l _
  match l with
  | 0 => rfl

/-- through the same table. -/
theorem defs_eq : Cert.Kernel.defs (F := Bits) = Cert.KernelIdeal.defs (F := Bits) := by
  unfold Cert.Kernel.defs Cert.KernelIdeal.defs
  exact congrArg _ defs₀_eq

/-- The kernel as written ends with its arguments unchanged and every counter at zero: it is the idealized kernel's program,
    whose run is proved for any float values. -/
theorem frame_kernel : Cert.quiescent_Kernel := fun m ρ _ => by
  rw [defs_eq]
  exact (θ_run Cert.KernelIdeal.defs _ _).mono (fun _ h => ⟨fun c => ⟨(h.1 c).1, (h.1 c).2.1⟩, h.2⟩) (run_main (F := Bits) m ρ)

/-- So does the idealized kernel. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- So does the reference, which has no counter. -/
theorem frame_referenceIdeal : Cert.quiescent_ReferenceIdeal := fun m ρ _ =>
  (θ_run Cert.ReferenceIdeal.defs _ _).mono (fun _ h => ⟨fun c => (h c).2, funext fun q => by
    rcases q with ⟨_, sm | sm⟩ <;> exact sm.elim0⟩) (Cert.ReferenceIdeal.Value.run (F := Ideal) m ρ)

/-- On blocks of the same two arrays, the devices' results are the blocks of the reference's result. -/
theorem value : Cert.algebraic_KernelIdeal_ReferenceIdeal := fun m ρ m' ρ' _ h =>
  ⟨_, (θ_run Cert.KernelIdeal.defs _ _).mono
      (fun _ k c => ⟨(k.1 c).2.2.trans (result_block m _ _ (fun c => (h c).1) (fun c => (h c).2) c), (k.1 c).1, (k.1 c).2.1⟩)
      (run_main (F := Ideal) m ρ),
    (θ_run Cert.ReferenceIdeal.defs _ _).mono (fun _ k => k 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
